-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_ten_log2e" .f32 0xC166D4CA#32 ((-(10 * (Real.log 2)⁻¹) : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096 : Shape := ⟨2, ![8, 4096]⟩
abbrev S_ : Shape := ⟨0, ![]⟩

class Facts : Prop where
  bcast_S_S8x4096x3 : S_.BroadcastsInDim S8x4096x3 (![] : Fin 0 → Fin S8x4096x3.rank)
  bcast_S_S8x4096 : S_.BroadcastsInDim S8x4096 (![] : Fin 0 → Fin S8x4096.rank)

variable [Facts]

def fn {F : FTy → Type} [FloatOps F] (main_arg0 : FVec F S8x4096x3 .f32) (main_arg1 : FVec F S8x4096x3 .f32) (main_arg2 : FVec F S8x4096 .f32) (main_arg3 : FVec F S8x4096 .f32) (main_arg4 : IVec S_ 32) : IVec S8x4096x3 1 × IVec S8x4096x3 1 × IVec S8x4096 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_v3 : FVec F S8x4096x3 .f32 := Host.absf main_arg1
  let main_cst_0 : FVec F S_ .f32 := constant S_ .f32 0x7F800000#32
  let main_v4 : FVec F S8x4096x3 .f32 := broadcastInDim S8x4096x3 ![] bcast_S_S8x4096x3 main_cst_0
  let main_v5 : IVec S8x4096x3 1 := cmpf .olt main_v3 main_v4
  let main_v6 : FVec F S8x4096 .f32 := Host.absf main_arg2
  let main_cst_1 : FVec F S_ .f32 := constant S_ .f32 0x7F800000#32
  let main_v7 : FVec F S8x4096 .f32 := broadcastInDim S8x4096 ![] bcast_S_S8x4096 main_cst_1
  let main_v8 : IVec S8x4096 1 := cmpf .olt main_v6 main_v7
  (main_v2, main_v5, main_v8)
-- ==== Kernel.lean ====
abbrev S8x4096x3 : Shape := ⟨3, ![8, 4096, 3]⟩
abbrev S8x4096 : Shape := ⟨2, ![8, 4096]⟩
abbrev S_ : Shape := ⟨0, ![]⟩
abbrev S8x4096x1 : Shape := ⟨3, ![8, 4096, 1]⟩
abbrev S8x4096x5 : Shape := ⟨3, ![8, 4096, 5]⟩
abbrev S8x3x4096 : Shape := ⟨3, ![8, 3, 4096]⟩
abbrev S8x1x4096 : Shape := ⟨3, ![8, 1, 4096]⟩
abbrev S8x1x1 : Shape := ⟨3, ![8, 1, 1]⟩
abbrev S1x1024x5 : Shape := ⟨3, ![1, 1024, 5]⟩
abbrev S1x3x4096 : Shape := ⟨3, ![1, 3, 4096]⟩
abbrev S1x1024x1 : Shape := ⟨3, ![1, 1024, 1]⟩
abbrev S1x1x4096 : Shape := ⟨3, ![1, 1, 4096]⟩
abbrev S1x1x1 : Shape := ⟨3, ![1, 1, 1]⟩
abbrev S1x4096 : Shape := ⟨2, ![1, 4096]⟩
abbrev S5x4096 : Shape := ⟨2, ![5, 4096]⟩
abbrev S4096x1 : Shape := ⟨2, ![4096, 1]⟩
abbrev S3x4096 : Shape := ⟨2, ![3, 4096]⟩
abbrev S3 : Shape := ⟨1, ![3]⟩
abbrev S3x1 : Shape := ⟨2, ![3, 1]⟩
abbrev S1 : Shape := ⟨1, ![1]⟩
abbrev S1x1 : Shape := ⟨2, ![1, 1]⟩
abbrev S4096 : Shape := ⟨1, ![4096]⟩
abbrev S1024x1 : Shape := ⟨2, ![1024, 1]⟩
abbrev S512x1 : Shape := ⟨2, ![512, 1]⟩
abbrev S1024x5 : Shape := ⟨2, ![1024, 5]⟩
abbrev S512x5 : Shape := ⟨2, ![512, 5]⟩
abbrev S512x4096 : Shape := ⟨2, ![512, 4096]⟩
abbrev S512 : Shape := ⟨1, ![512]⟩

abbrev nBuf : Space → Nat
  | .hbm => 34
  | .vmem => 22
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .i32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x5, .f32⟩
  | .hbm, ⟨12, _⟩ => ⟨S8x3x4096, .f32⟩
  | .hbm, ⟨13, _⟩ => ⟨S8x4096x1, .f32⟩
  | .hbm, ⟨14, _⟩ => ⟨S8x1x4096, .f32⟩
  | .hbm, ⟨15, _⟩ => ⟨S8x1x1, .f32⟩
  | .hbm, ⟨16, _⟩ => ⟨S8x1x1, .f32⟩
  | .hbm, ⟨17, _⟩ => ⟨S8x1x1, .f32⟩
  | .hbm, ⟨18, _⟩ => ⟨S8x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x1024x5, .f32⟩
  | .local _ .vmem, ⟨1, _⟩ => ⟨S1x1024x5, .f32⟩
  | .local _ .vmem, ⟨2, _⟩ => ⟨S1x3x4096, .f32⟩
  | .local _ .vmem, ⟨3, _⟩ => ⟨S1x3x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x4096, .f32⟩
  | .local _ .vmem, ⟨17, _⟩ => ⟨S1x4096, .f32⟩
  | .local _ .vmem, ⟨18, _⟩ => ⟨S5x4096, .f32⟩
  | .local _ .vmem, ⟨19, _⟩ => ⟨S4096x1, .f32⟩
  | .local _ .vmem, ⟨20, _⟩ => ⟨S4096x1, .f32⟩
  | .local _ .vmem, ⟨21, _⟩ => ⟨S4096x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_off1 (i : grid0.Coords) (c0_i32_10 : BitVec 32) : Fin 2 → Nat :=
  let arg1 : BitVec 32 := BitVec.ofNat 32 (i 1).val
  let c1024_i32 : BitVec 32 := 1024#32
  let v17 : BitVec 32 := Scalar.muli arg1 c1024_i32
  let v18 : BitVec 32 := Scalar.addi v17 c0_i32_10
  let v19 : Index := Scalar.indexCast v18
  let c0_11 : Index := 0#32
  ![v19.toNat, 0]
def k0_cond2 (i : grid0.Coords) : BitVec 1 :=
  let arg1 : BitVec 32 := BitVec.ofNat 32 (i 1).val
  let c3_i32 : BitVec 32 := 3#32
  let v115 : BitVec 1 := Scalar.cmpi .eq arg1 c3_i32
  let v116 : BitVec 32 := Scalar.extui v115
  let c0_i32_57 : BitVec 32 := 0#32
  let v117 : BitVec 1 := Scalar.cmpi .ne v116 c0_i32_57
  v117

def k0_cond3 (i : grid0.Coords) : BitVec 1 :=
  let arg1 : BitVec 32 := BitVec.ofNat 32 (i 1).val
  let c3_i32_58 : BitVec 32 := 3#32
  let v118 : BitVec 1 := Scalar.cmpi .eq arg1 c3_i32_58
  let v119 : BitVec 32 := Scalar.extui v118
  let c0_i32_59 : BitVec 32 := 0#32
  let v120 : BitVec 1 := Scalar.cmpi .ne v119 c0_i32_59
  v120

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "neg_ten_log2e" => some ((-(10 * (Real.log 2)⁻¹) : ℝ) : EReal)
  | _ => none
-- ==== ReferenceIdeal.lean ====
abbrev S8x4096x3 : Shape := ⟨3, ![8, 4096, 3]⟩
abbrev S8x4096 : Shape := ⟨2, ![8, 4096]⟩
abbrev S_ : Shape := ⟨0, ![]⟩
abbrev S8x3 : Shape := ⟨2, ![8, 3]⟩
abbrev S8x1x3 : Shape := ⟨3, ![8, 1, 3]⟩
abbrev S8x1 : Shape := ⟨2, ![8, 1]⟩
abbrev S8x1x1 : Shape := ⟨3, ![8, 1, 1]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 118
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .i32⟩
  | .hbm, ⟨5, _⟩ => ⟨S_, .f32⟩
  | .hbm, ⟨6, _⟩ => ⟨S8x3, .f32⟩
  | .hbm, ⟨7, _⟩ => ⟨S8x1x3, .f32⟩
  | .hbm, ⟨8, _⟩ => ⟨S_, .f32⟩
  | .hbm, ⟨9, _⟩ => ⟨S8x3, .f32⟩
  | .hbm, ⟨10, _⟩ => ⟨S8x1x3, .f32⟩
  | .hbm, ⟨11, _⟩ => ⟨S8x1x3, .f32⟩
  | .hbm, ⟨12, _⟩ => ⟨S_, .f32⟩
  | .hbm, ⟨13, _⟩ => ⟨S8x1x3, .f32⟩
  | .hbm, ⟨14, _⟩ => ⟨S8x1x3, .f32⟩
  | .hbm, ⟨15, _⟩ => ⟨S8x1x3, .f32⟩
  | .hbm, ⟨16, _⟩ => ⟨S_, .f32⟩
  | .hbm, ⟨17, _⟩ => ⟨S8x1, .f32⟩
  | .hbm, ⟨18, _⟩ => ⟨S8x1x1, .f32⟩
  | .hbm, ⟨19, _⟩ => ⟨S_, .f32⟩
  | .hbm, ⟨20, _⟩ => ⟨S8x1x1, .f32⟩
  | .hbm, ⟨21, _⟩ => ⟨S8x1x1, .f32⟩
  | .hbm, ⟨22, _⟩ => ⟨S8x4096x3, .f32⟩
  | .hbm, ⟨23, _⟩ => ⟨S8x4096x3, .f32⟩
  | .hbm, ⟨24, _⟩ => ⟨S8x4096x3, .f32⟩
  | .hbm, ⟨25, _⟩ => ⟨S8x4096x3, .f32⟩
  | .hbm, ⟨26, _⟩ => ⟨S8x4096x3, .f32⟩
  | .hbm, ⟨27, _⟩ => ⟨S8x4096x3, .f32⟩
  | .hbm, ⟨28, _⟩ => ⟨S8x4096x3, .f32⟩
  | .hbm, ⟨29, _⟩ => ⟨S8x4096x3, .f32⟩
  | .hbm, ⟨30, _⟩ => ⟨S8x4096x3, .f32⟩
  | .hbm, ⟨31, _⟩ => ⟨S_, .f32⟩
  | .hbm, ⟨32, _⟩ => ⟨S8x4096, .f32⟩
  | .hbm, ⟨33, _⟩ => ⟨S8x4096x3, .f32⟩
  | .hbm, ⟨34, _⟩ => ⟨S_, .f32⟩
  | .hbm, ⟨35, _⟩ => ⟨S8x4096, .f32⟩
  | .hbm, ⟨36, _⟩ => ⟨S8x4096x4096, .f32⟩
  | .hbm, ⟨37, _⟩ => ⟨S8x4096x1, .f32⟩
  | .hbm, ⟨38, _⟩ => ⟨S8x1x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S_, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096, .f32⟩
  | .hbm, ⟨82, _⟩ => ⟨S8x1x4096, .f32⟩
  | .hbm, ⟨83, _⟩ => ⟨S_, .f32⟩
  | .hbm, ⟨84, _⟩ => ⟨S8x1x4096, .f32⟩
  | .hbm, ⟨85, _⟩ => ⟨S8x1x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S_, .f32⟩
  | .hbm, ⟨95, _⟩ => ⟨S8x4096, .f32⟩
  | .hbm, ⟨96, _⟩ => ⟨S8x4096, .f32⟩
  | .hbm, ⟨97, _⟩ => ⟨S8x4096x1, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096, .f32⟩
  | .hbm, ⟨103, _⟩ => ⟨S8x4096x1, .f32⟩
  | .hbm, ⟨104, _⟩ => ⟨S8x4096x4096, .f32⟩
  | .hbm, ⟨105, _⟩ => ⟨S8x4096x4096, .f32⟩
  | .hbm, ⟨106, _⟩ => ⟨S8x4096x4096, .f32⟩
  | .hbm, ⟨107, _⟩ => ⟨S_, .f32⟩
  | .hbm, ⟨108, _⟩ => ⟨S8x4096, .f32⟩
  | .hbm, ⟨109, _⟩ => ⟨S8x4096, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_cst_20 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_21 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_22 : Ref sig .tc := ⟨.hbm, 107, rfl⟩
abbrev main_v79 : Ref sig .tc := ⟨.hbm, 108, rfl⟩
abbrev main_v80 : Ref sig .tc := ⟨.hbm, 109, rfl⟩
abbrev main_cst_23 : Ref sig .tc := ⟨.hbm, 110, rfl⟩
abbrev main_v81 : Ref sig .tc := ⟨.hbm, 111, rfl⟩
abbrev main_cst_24 : Ref sig .tc := ⟨.hbm, 112, rfl⟩
abbrev main_v82 : Ref sig .tc := ⟨.hbm, 113, rfl⟩
abbrev main_cst_25 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== Proof.Equations.lean ====
/-
  The mathematics the two programs share, over the reals: the scale of a target cloud, the scaled squared distance of two
  points, and the softmax-weighted mean distance, with the equations that bring either program's form to it.
-/
module

public import Idealize.ShloMosaic.PureOps.Ideal.Laws
public import Idealize.ShloMosaic.Lib.Pointwise

@[expose] public section

noncomputable section

namespace Cert.Chamfer

open Idealize.ShloMosaic

/-! ## Literals -/

/-- The programs' small constant, the value of the binary32 nearest to one millionth. -/
def eps : ℝ := 8796093 * (2 : ℝ) ^ (-43 : ℤ)

/-- It is positive. -/
theorem eps_pos : 0 < eps := by unfold eps; positivity

/-- The literal of the small constant reads as `eps`. -/
theorem lit_eps : Ideal.ofBits .f32 0x358637BD#32 = (eps : EReal) := by
  unfold eps
  simp [Ideal.ofBits, Ideal.ieee, -EReal.coe_mul]
/-- The literal of minus two. -/
theorem lit_neg_two : Ideal.ofBits .f32 0xC0000000#32 = ((-2 : ℝ) : EReal) := by
  simp [Ideal.ofBits, Ideal.ieee, -EReal.coe_mul]
  norm_num
/-- The literal of two. -/
theorem lit_two : Ideal.ofBits .f32 0x40000000#32 = ((2 : ℝ) : EReal) := by
  simp [Ideal.ofBits, Ideal.ieee, -EReal.coe_mul]
  norm_num
/-- The literal of ten. -/
theorem lit_ten : Ideal.ofBits .f32 0x41200000#32 = ((10 : ℝ) : EReal) := by
  simp [Ideal.ofBits, Ideal.ieee, -EReal.coe_mul]
  norm_num
/-- The literal of minus infinity. -/
theorem lit_bot : Ideal.ofBits .f32 0xFF800000#32 = (⊥ : EReal) := by
  simp [Ideal.ofBits, Ideal.ieee, -EReal.coe_mul]
/-- The literal of infinity. -/
theorem lit_top : Ideal.ofBits .f32 0x7F800000#32 = (⊤ : EReal) := by
  simp [Ideal.ofBits, Ideal.ieee, -EReal.coe_mul]

/-! ## Sums, maxima and minima of real numbers -/

/-- A sum of real numbers is a real number. -/
theorem coe_sum {ι : Type*} (s : Finset ι) (f : ι → ℝ) : (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- The largest of finitely many real numbers is one, and none is larger. -/
theorem fold_max_coe {n : ℕ} (f : Fin (n + 1) → ℝ) :
    ∃ r : ℝ, (Finset.univ.fold max ⊥ fun i => ((f i : ℝ) : EReal)) = (r : EReal) ∧ ∀ i, f i ≤ r := by
  have h1 : (Finset.univ.fold max ⊥ fun i => ((f i : ℝ) : EReal)) < ⊤ :=
    (Finset.fold_max_lt _).mpr ⟨bot_lt_top, fun i _ => EReal.coe_lt_top _⟩
  have h2 : ∀ i, ((f i : ℝ) : EReal) ≤ (Finset.univ.fold max ⊥ fun i => ((f i : ℝ) : EReal)) := fun i =>
    (Finset.le_fold_max _).mpr (.inr ⟨i, Finset.mem_univ i, le_rfl⟩)
  have h3 := lt_of_lt_of_le (EReal.bot_lt_coe _) (h2 0)
  generalize (Finset.univ.fold max ⊥ fun i => ((f i : ℝ) : EReal)) = M at *
  lift M to ℝ using ⟨h1.ne, h3.ne'⟩
  exact ⟨M, rfl, fun i => EReal.coe_le_coe_iff.mp (h2 i)⟩

/-- The smallest of finitely many real numbers is one, and none is smaller. -/
theorem fold_min_coe {n : ℕ} (f : Fin (n + 1) → ℝ) :
    ∃ r : ℝ, (Finset.univ.fold min ⊤ fun i => ((f i : ℝ) : EReal)) = (r : EReal) ∧ ∀ i, r ≤ f i := by
  have h1 : ⊥ < (Finset.univ.fold min ⊤ fun i => ((f i : ℝ) : EReal)) :=
    (Finset.lt_fold_min _).mpr ⟨bot_lt_top, fun i _ => EReal.bot_lt_coe _⟩
  have h2 : ∀ i, (Finset.univ.fold min ⊤ fun i => ((f i : ℝ) : EReal)) ≤ ((f i : ℝ) : EReal) := fun i =>
    (Finset.fold_min_le _).mpr (.inr ⟨i, Finset.mem_univ i, le_rfl⟩)
  have h3 := lt_of_le_of_lt (h2 0) (EReal.coe_lt_top _)
  generalize (Finset.univ.fold min ⊤ fun i => ((f i : ℝ) : EReal)) = M at *
  lift M to ℝ using ⟨h3.ne, h1.ne'⟩
  exact ⟨M, rfl, fun i => EReal.coe_le_coe_iff.mp (h2 i)⟩

/-! ## The scale of a target cloud -/

/-- The widest extent of a cloud along a coordinate axis, and the small constant, in the programs' own form. -/
def scaleE (t : Fin 4096 → Fin 3 → EReal) : EReal :=
  (Finset.univ.fold max ⊥ fun k => (Finset.univ.fold max ⊥ fun n => t n k) - (Finset.univ.fold min ⊤ fun n => t n k)) + (eps : EReal)

/-- The scale of a cloud of real points. -/
def scale (t : Fin 4096 → Fin 3 → ℝ) : ℝ := (scaleE fun n k => ((t n k : ℝ) : EReal)).toReal

/-- The scale in the programs' form is a positive real number. -/
theorem scale_spec (t : Fin 4096 → Fin 3 → ℝ) : ∃ r : ℝ, (scaleE fun n k => ((t n k : ℝ) : EReal)) = (r : EReal) ∧ 0 < r := by
  choose hi hhi lhi using fun k => fold_max_coe (n := 4095) fun n => t n k
  choose lo hlo llo using fun k => fold_min_coe (n := 4095) fun n => t n k
  obtain ⟨M, hM, lM⟩ := fold_max_coe (n := 2) fun k => hi k - lo k
  refine ⟨M + eps, ?_, ?_⟩
  · unfold scaleE
    rw [EReal.coe_add, ← hM]
    refine congrArg (· + (eps : EReal)) (congrArg (fun f => Finset.univ.fold max ⊥ f) (funext fun k => ?_))
    rw [EReal.coe_sub]
    exact congrArg₂ (· - ·) (hhi k) (hlo k)
  · have := lM 0; have := lhi 0 0; have := llo 0 0; have := eps_pos
    linarith

/-- The scale of a cloud of real points is a real number, -/
theorem scaleE_coe (t : Fin 4096 → Fin 3 → ℝ) : (scaleE fun n k => ((t n k : ℝ) : EReal)) = (scale t : EReal) := by
  obtain ⟨r, h, _⟩ := scale_spec t
  rw [scale, h, EReal.toReal_coe]
/-- and positive. -/
theorem scale_pos (t : Fin 4096 → Fin 3 → ℝ) : 0 < scale t := by
  obtain ⟨r, h, p⟩ := scale_spec t
  rwa [scale, h, EReal.toReal_coe]

/-! ## The scaled squared distance -/

/-- The squared distance of two points of space, at scale `σ`. -/
def dist (σ : ℝ) (s t : Fin 3 → ℝ) : ℝ := (1 / σ * (1 / σ)) * ∑ k, (s k - t k) * (s k - t k)

/-- It is never negative. -/
theorem dist_nonneg (σ : ℝ) (s t : Fin 3 → ℝ) : 0 ≤ dist σ s t :=
  mul_nonneg (mul_self_nonneg _) (Finset.sum_nonneg fun k _ => mul_self_nonneg _)

/-- The product of an augmented source row and an augmented target column is the scaled squared distance. -/
theorem dist_augmented (σ : ℝ) (s t : Fin 3 → ℝ) :
    (∑ k, s k * (t k * (-2 * (1 / σ * (1 / σ))))) + (∑ k, s k * s k) * (1 / σ * (1 / σ)) + (∑ k, t k * t k) * (1 / σ * (1 / σ))
      = dist σ s t := by
  unfold dist
  simp only [Fin.sum_univ_three]
  ring

/-- The expanded square of the distance of the two centred and scaled points is the scaled squared distance. -/
theorem dist_expanded (σ : ℝ) (h : σ ≠ 0) (s t x : Fin 3 → ℝ) :
    (∑ k, (s k - x k) / σ * ((s k - x k) / σ)) + (∑ k, (t k - x k) / σ * ((t k - x k) / σ))
      - 2 * (∑ k, (s k - x k) / σ * ((t k - x k) / σ)) = dist σ s t := by
  unfold dist
  simp only [Fin.sum_univ_three]
  field_simp
  ring

/-! ## The softmax-weighted mean -/

/-- The mean of `d` with weights `exp (-10 d)`. -/
def soft {ι : Type} [Fintype ι] (d : ι → ℝ) : ℝ := (∑ i, d i * Real.exp (-10 * d i)) / ∑ i, Real.exp (-10 * d i)

/-- The weights' sum is positive. -/
theorem weights_pos {n : ℕ} (d : Fin (n + 1) → ℝ) : 0 < ∑ i, Real.exp (-10 * d i) :=
  Finset.sum_pos (fun i _ => Real.exp_pos _) ⟨0, Finset.mem_univ _⟩

/-- The softmax with any shift `M` in its exponents gives the same mean. -/
theorem soft_shifted {n : ℕ} (d : Fin (n + 1) → ℝ) (M : ℝ) :
    (∑ i, d i * (Real.exp (-d i * 10 - M) / ∑ j, Real.exp (-d j * 10 - M))) = soft d := by
  have e : ∀ i, Real.exp (-d i * 10 - M) = Real.exp (-10 * d i) * Real.exp (-M) := fun i => by
    rw [← Real.exp_add]; congr 1; ring
  have hM := (Real.exp_pos (-M)).ne'
  have hw := (weights_pos d).ne'
  simp only [e, ← Finset.sum_mul, soft]
  rw [Finset.sum_div]
  refine Finset.sum_congr rfl fun i _ => ?_
  field_simp

/-- Two to the power of `d` times minus ten over the logarithm of two is `exp (-10 d)`. -/
theorem two_pow (d : ℝ) : Real.rpow 2 (d * -(10 * (Real.log 2)⁻¹)) = Real.exp (-10 * d) := by
  have h2 : Real.log 2 ≠ 0 := (Real.log_pos (by norm_num)).ne'
  show (2 : ℝ) ^ (d * -(10 * (Real.log 2)⁻¹)) = _
  rw [Real.rpow_def_of_pos (by norm_num)]
  congr 1
  field_simp

/-! ## The loss -/

section

variable (S T : Fin 8 → Fin 4096 → Fin 3 → ℝ) (W : Fin 8 → Fin 4096 → ℝ) (U : Fin 8 → Fin 4096 → EReal)

/-- The scaled squared distance of source point `i` and target point `j` of batch `b`. -/
def D (b : Fin 8) (i j : Fin 4096) : ℝ := dist (scale (T b)) (S b i) (T b j)
/-- The same with the penalty of an absent source point. -/
def P (b : Fin 8) (j i : Fin 4096) : ℝ := D S T b i j + (1 - W b i) * 10

/-- A batch's masked loss, from source to target and from target to source. -/
def lossRow (b : Fin 8) : EReal := ∑ i, ((soft (D S T b i) : ℝ) : EReal) * ((W b i : ℝ) : EReal)
/-- And from target to source. -/
def lossCol (b : Fin 8) : EReal := ∑ j, ((soft (P S T W b j) : ℝ) : EReal) * U b j

/-- The whole loss. -/
def loss : EReal :=
  Ideal.div (∑ b, lossRow S T W b) ((∑ b, ∑ i, ((W b i : ℝ) : EReal)) + (eps : EReal))
    + Ideal.div (∑ b, lossCol S T W U b) ((∑ b, ∑ j, U b j) + (eps : EReal))

end

end Cert.Chamfer

end
-- ==== Proof.Inputs.lean ====
/-
  The precondition's own side conditions, and what it says of the arguments: every element of the two point sets and of
  the source mask is a real number.
-/
module

public import proofs.«01_k».proof.Defs
public import proofs.«01_k».proof.Proof.Equations
public import Idealize.ShloMosaic.Lib.Pointwise
public import Idealize.ShloMosaic.Lib.Claim

@[expose] public section

noncomputable section

namespace Cert.Inputs

open Idealize.ShloMosaic

/-- The two broadcasts of the bound. -/
instance facts : Cert.Pre_finite_inputs.Facts where
  bcast_S_S8x4096x3 := by decide
  bcast_S_S8x4096 := by decide

/-- A number whose absolute value lies below infinity is real. -/
theorem real_of_bound (x : EReal) (h : Ideal.cmp .olt (max x (-x)) (Ideal.ofBits .f32 0x7F800000#32) = 1#1) :
    x = ((x.toReal : ℝ) : EReal) := by
  rw [Cert.Chamfer.lit_top] at h
  have hlt : max x (-x) < ⊤ := by
    by_contra hn
    simp [Ideal.cmp, hn] at h
  refine (EReal.coe_toReal ?_ ?_).symm
  · rintro rfl
    simp at hlt
  · rintro rfl
    simp at hlt

section

open Cert.Pre_finite_inputs (S8x4096x3 S8x4096 S_ fn)

variable (x0 x1 : FVec Ideal S8x4096x3 .f32) (x2 x3 : FVec Ideal S8x4096 .f32) (x4 : IVec S_ 32)

/-- Of the source points, -/
theorem source_real (h : (fn (F := Ideal) x0 x1 x2 x3 x4).1 = fun _ => 1#1) (j : S8x4096x3.Idx) :
    (x0 j : EReal) = ((EReal.toReal (x0 j) : ℝ) : EReal) := real_of_bound _ (congrFun h j)
/-- of the target points, -/
theorem target_real (h : (fn (F := Ideal) x0 x1 x2 x3 x4).2.1 = fun _ => 1#1) (j : S8x4096x3.Idx) :
    (x1 j : EReal) = ((EReal.toReal (x1 j) : ℝ) : EReal) := real_of_bound _ (congrFun h j)
/-- and of the source mask. -/
theorem mask_real (h : (fn (F := Ideal) x0 x1 x2 x3 x4).2.2 = fun _ => 1#1) (j : S8x4096.Idx) :
    (x2 j : EReal) = ((EReal.toReal (x2 j) : ℝ) : EReal) := real_of_bound _ (congrFun h j)

end

end Cert.Inputs

end
-- ==== Proof.Setup.lean ====
/-
  The launch's set-up: where each branch of the kernel's body is taken, which windows are live, the staging buffers and
  scratch buffers by name, and the scratch invariant of the launch as owned buffers.
-/
module

public import proofs.«01_k».proof.Proof.Gen.KernelIdeal.Frame

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1024x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x4096 .f32 := Memref.whole cc0_scratch0
abbrev scM0_1 : Memref sig .tc .vmem S1x4096 .f32 := Memref.whole cc0_scratch1
abbrev scM0_2 : Memref sig .tc .vmem S5x4096 .f32 := Memref.whole cc0_scratch2
abbrev scM0_3 : Memref sig .tc .vmem S4096x1 .f32 := Memref.whole cc0_scratch3
abbrev scM0_4 : Memref sig .tc .vmem S4096x1 .f32 := Memref.whole cc0_scratch4
abbrev scM0_5 : Memref sig .tc .vmem S4096x1 .f32 := Memref.whole cc0_scratch5
/-- The launch's scratch invariant: each scratch buffer owned at some contents, beside the generator's state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Chamfer

end
-- ==== Proof.Steps.lean ====
/-
  What one grid point does to the scratch buffers, as functions of the staged blocks.

  A point works on one block of 1024 source rows in two halves of 512. It overwrites its 1024 rows of the three
  row buffers (`putRows`) and adds its column sums to the two column accumulators (`denStep`, `numStep`).
-/
module

public import proofs.«01_k».proof.Proof.Setup
public import Idealize.ShloMosaic.Lib.VecWindow
public import proofs.«01_k».proof.Proof.Gen.KernelIdeal.Skeleton

@[expose] public section

noncomputable section

namespace Cert.KernelIdeal.Chamfer

open Cert.KernelIdeal.Gen
open Idealize.ShloMosaic Idealize.ShloMosaic.TcCoe

variable {F : FTy → Type} [FloatOps F] [Named F]

/-- Row `n` of a column of 512 entries. -/
def halfIx (n : ℕ) (h : n < 512) : S512x1.Idx := fun a => match a with
  | ⟨0, _⟩ => ⟨n, h⟩
  | ⟨1, _⟩ => (⟨0, Nat.one_pos⟩ : Fin 1)

/-- The row buffer `old` with rows `o … o+511` replaced by `lo` and rows `o+512 … o+1023` replaced by `hi`. -/
def putRows (o : ℕ) (lo hi : Vec F S512x1 .f32) (old : Vec F S4096x1 .f32) : Vec F S4096x1 .f32 := fun y =>
  if h : o + 512 ≤ (y 0).val ∧ (y 0).val < o + 512 + 512 then hi (halfIx ((y 0).val - (o + 512)) (by omega))
  else if h : o ≤ (y 0).val ∧ (y 0).val < o + 512 then lo (halfIx ((y 0).val - o) (by omega))
  else old y

/-- The softmax denominators of the block's rows, first and second half. -/
def denLo (x : Vec F S1x1024x5 .f32) (T : Vec F S5x4096 .f32) : Vec F S512x1 .f32 := k0_pay13 x T
def denHi (x : Vec F S1x1024x5 .f32) (T : Vec F S5x4096 .f32) : Vec F S512x1 .f32 := k0_pay25 (k0_pay24 x T)
/-- The softmax numerators of the block's rows, first and second half. -/
def numLo (x : Vec F S1x1024x5 .f32) (T : Vec F S5x4096 .f32) : Vec F S512x1 .f32 := k0_pay14 x T
def numHi (x : Vec F S1x1024x5 .f32) (T : Vec F S5x4096 .f32) : Vec F S512x1 .f32 := k0_pay26 (k0_pay23 x T)
/-- The row mask of the block, first and second half. -/
def maskLo (x : Vec F S1x1024x1 .f32) : Vec F S512x1 .f32 := k0_pay15 (k0_pay10 x)
def maskHi (x : Vec F S1x1024x1 .f32) : Vec F S512x1 .f32 := k0_pay27 (k0_pay20 x)

/-- The column denominators after a block, from those before it. -/
def denStep (x : Vec F S1x1024x5 .f32) (w : Vec F S1x1024x1 .f32) (T : Vec F S5x4096 .f32) (old : Vec F S1x4096 .f32) :
    Vec F S1x4096 .f32 :=
  k0_pay31 (k0_pay18 (k0_pay10 w) (k0_pay12 x T)) (k0_pay20 w) (k0_pay22 x T) old
/-- The column numerators after a block, from those before it. -/
def numStep (x : Vec F S1x1024x5 .f32) (w : Vec F S1x1024x1 .f32) (T : Vec F S5x4096 .f32) (old : Vec F S1x4096 .f32) :
    Vec F S1x4096 .f32 :=
  k0_pay1 (k0_pay30 (k0_pay19 (k0_pay10 w) (k0_pay11 x T) (k0_pay12 x T)) (k0_pay20 w) (k0_pay21 x T) (k0_pay22 x T)) old

/-- The first row of the block of source rows a point works on. -/
def rowOff (i : grid0.Coords) : ℕ := 1024 * (i 1).val

/-- The rows the lower half is written at, -/
theorem off_lo (i : grid0.Coords) : k0_off1 i 0#32 = ![rowOff i, 0] := by
  have h : (i 1).val < 4 := (i 1).isLt
  simp only [k0_off1, rowOff]
  generalize (i 1).val = n at h
  interval_cases n <;> rfl

/-- And the upper half. -/
theorem off_hi (i : grid0.Coords) : k0_off1 i 512#32 = ![rowOff i + 512, 0] := by
  have h : (i 1).val < 4 := (i 1).isLt
  simp only [k0_off1, rowOff]
  generalize (i 1).val = n at h
  interval_cases n <;> rfl

/-- What a row buffer reads after the two half stores of a point. -/
theorem read_halves {sp : Space} (v : View sig .tc sp S4096x1 .f32) (f : v.ty.Contents (Elt F)) (i : grid0.Coords)
    (inb₁ : ∀ a, k0_off1 i 0#32 a + S512x1.size a ≤ S4096x1.size a)
    (inb₂ : ∀ a, k0_off1 i 512#32 a + S512x1.size a ≤ S4096x1.size a) (lo hi : Vec F S512x1 .f32) :
    v.read (Elt F) (v.writes (Elt F) f [⟨Rect.unit (k0_off1 i 512#32) S512x1.size inb₂, hi⟩,
        ⟨Rect.unit (k0_off1 i 0#32) S512x1.size inb₁, lo⟩])
      = putRows (rowOff i) lo hi (v.read (Elt F) f) := by
  funext y
  rw [View.read_writes_cons_rows v f inb₂ hi _ y (off_hi i) (W := 512) rfl rfl,
    View.read_writes_cons_rows v f inb₁ lo _ y (off_lo i) (W := 512) rfl rfl, View.writes_nil]
  unfold putRows
  have hy : (y 1).val = 0 := by have : (y 1).val < 1 := (y 1).isLt; omega
  split
  · refine congrArg hi (funext fun a => ?_)
    match a with
    | ⟨0, _⟩ => exact Fin.ext rfl
    | ⟨1, _⟩ => exact Fin.ext (by show (y 1).val - 0 = 0; omega)
  · split
    · refine congrArg lo (funext fun a => ?_)
      match a with
      | ⟨0, _⟩ => exact Fin.ext rfl
      | ⟨1, _⟩ => exact Fin.ext (by show (y 1).val - 0 = 0; omega)
    · rfl

end Cert.KernelIdeal.Chamfer

end
-- ==== Proof.Track.lean ====
/-
  What the scratch buffers hold after each grid point.

  Points are numbered `4 * batch + block`. Every accumulator restarts at a batch's first point: `accOver f z n` is the
  value after point `n` of an accumulator that starts a batch at `z` and is taken over point `k` by `f k`. The two
  column accumulators start at zero. A row buffer starts at whatever it held, and after a batch's last point all of
  its rows have been written (`rows_full`).
-/
module

public import proofs.«01_k».proof.Proof.Steps

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An accumulator that restarts at `z` at each batch's first point, after point `n`. -/
def accOver {α : Type} (f : ℕ → α → α) (z : α) : ℕ → α
  | 0 => f 0 z
  | n + 1 => f (n + 1) (if (n + 1) % 4 = 0 then z else accOver f z n)

/-- At a batch's first point it starts over, -/
theorem accOver_first {α : Type} (f : ℕ → α → α) (z : α) (n : ℕ) (h : n % 4 = 0) : accOver f z n = f n z := by
  cases n with
  | zero => rfl
  | succ n => simp only [accOver, h, if_true]

/-- And elsewhere continues from the point before. -/
theorem accOver_next {α : Type} (f : ℕ → α → α) (z : α) (n : ℕ) (h : ¬n % 4 = 0) :
    accOver f z n = f n (accOver f z (n - 1)) := by
  cases n with
  | zero => exact absurd rfl h
  | succ n => simp only [accOver, h, if_false, Nat.add_sub_cancel]

/-- After a batch's last point: the four points of the batch in order. -/
theorem accOver_last {α : Type} (f : ℕ → α → α) (z : α) (n : ℕ) (h : n % 4 = 3) :
    accOver f z n = f n (f (n - 1) (f (n - 2) (f (n - 3) z))) := by
  rw [accOver_next f z n (by omega), accOver_next f z (n - 1) (by omega), accOver_next f z (n - 1 - 1) (by omega),
    accOver_first f z (n - 1 - 1 - 1) (by omega), Nat.sub_sub, Nat.sub_sub]

/-- Point `n` of the grid. -/
def pt (n : ℕ) : Fin cfg0.N := ⟨n % 32, lt_of_lt_of_eq (Nat.mod_lt n (by decide)) (show 32 = cfg0.N from N_0.symm)⟩

/-- A point is the point of its number. -/
theorem pt_val (t : Fin cfg0.N) : pt t.val = t :=
  Fin.ext (Nat.mod_eq_of_lt (lt_of_lt_of_eq t.isLt (show cfg0.N = 32 from N_0)))

/-- The block of augmented source rows staged at point `n`. -/
def srcBlk (c : Dev nD) (n : ℕ) : Vec F S1x1024x5 .f32 := iblk m c 0 (pt n)
/-- The block of the row mask staged at point `n`. -/
def wgtBlk (c : Dev nD) (n : ℕ) : Vec F S1x1024x1 .f32 := iblk m c 2 (pt n)
/-- The target points staged for the batch of point `n`. -/
def tgtBlk (c : Dev nD) (n : ℕ) : Vec F S1x3x4096 .f32 := iblk m c 1 (pt (n / 4 * 4))
/-- The augmented target of the batch of point `n`. -/
def aug (c : Dev nD) (n : ℕ) : Vec F S5x4096 .f32 := k0_pay7 (tgtBlk m c n)

/-- At a point's number it is the point's block, -/
theorem srcBlk_val (c : Dev nD) (t : Fin cfg0.N) : srcBlk m c t.val = iblk m c 0 t := by rw [srcBlk, pt_val]
/-- And so is the mask's. -/
theorem wgtBlk_val (c : Dev nD) (t : Fin cfg0.N) : wgtBlk m c t.val = iblk m c 2 t := by rw [wgtBlk, pt_val]
/-- At a batch's first point it is made from the target block, -/
theorem aug_first (c : Dev nD) (t : Fin cfg0.N) (h : t.val % 4 = 0) : aug m c t.val = k0_pay7 (iblk m c 1 t) := by
  rw [aug, tgtBlk, show t.val / 4 * 4 = t.val by omega, pt_val]
/-- And kept from the point before elsewhere. -/
theorem aug_next (c : Dev nD) (n : ℕ) (h : ¬n % 4 = 0) : aug m c n = aug m c (n - 1) := by
  rw [aug, aug, tgtBlk, tgtBlk, show n / 4 * 4 = (n - 1) / 4 * 4 by omega]

/-- Point `n`'s step of the column denominators and of the column numerators. -/
def denAt (c : Dev nD) (n : ℕ) : Vec F S1x4096 .f32 → Vec F S1x4096 .f32 := denStep (srcBlk m c n) (wgtBlk m c n) (aug m c n)
def numAt (c : Dev nD) (n : ℕ) : Vec F S1x4096 .f32 → Vec F S1x4096 .f32 := numStep (srcBlk m c n) (wgtBlk m c n) (aug m c n)
/-- The column accumulators after point `n`. -/
def colDen (c : Dev nD) (n : ℕ) : Vec F S1x4096 .f32 := accOver (denAt m c) k0_pay8 n
def colNum (c : Dev nD) (n : ℕ) : Vec F S1x4096 .f32 := accOver (numAt m c) k0_pay9 n

/-- A row buffer taken over point `n`, which writes `lo n` and `hi n` into its block's rows. -/
def putAt (lo hi : ℕ → Vec F S512x1 .f32) (n : ℕ) : Vec F S4096x1 .f32 → Vec F S4096x1 .f32 :=
  putRows (1024 * (n % 4)) (lo n) (hi n)

/-- What a batch's four points write into a row buffer, the batch being that of point `n`. -/
def rowsOf (lo hi : ℕ → Vec F S512x1 .f32) (n : ℕ) : Vec F S4096x1 .f32 := fun y =>
  if h : (y 0).val % 1024 < 512 then lo (4 * (n / 4) + (y 0).val / 1024) (halfIx ((y 0).val % 1024) h)
  else hi (4 * (n / 4) + (y 0).val / 1024) (halfIx ((y 0).val % 1024 - 512) (by omega))

/-- Equal points and equal rows have equal entries. -/
theorem entry_congr (f : ℕ → Vec F S512x1 .f32) {a b r s : ℕ} (h : a = b) (e : r = s) (hr : r < 512) (hs : s < 512) :
    f a (halfIx r hr) = f b (halfIx s hs) := by
  subst h; subst e; rfl

/-- After a batch's last point every row of a row buffer has been written. -/
theorem rows_full (lo hi : ℕ → Vec F S512x1 .f32) (d : Vec F S4096x1 .f32) (n : ℕ) (h : n % 4 = 3) :
    accOver (putAt lo hi) d n = rowsOf lo hi n := by
  rw [accOver_last _ _ _ h]
  funext y
  have hy : (y 0).val < 4096 := (y 0).isLt
  unfold rowsOf
  split <;> (unfold putAt putRows; repeat' split) <;> first
    | (exfalso; omega)
    | exact entry_congr _ (by omega) (by omega) _ _

/-- The half blocks point `n` writes: denominators, numerators, mask. -/
def denLoAt (c : Dev nD) (n : ℕ) : Vec F S512x1 .f32 := denLo (srcBlk m c n) (aug m c n)
def denHiAt (c : Dev nD) (n : ℕ) : Vec F S512x1 .f32 := denHi (srcBlk m c n) (aug m c n)
def numLoAt (c : Dev nD) (n : ℕ) : Vec F S512x1 .f32 := numLo (srcBlk m c n) (aug m c n)
def numHiAt (c : Dev nD) (n : ℕ) : Vec F S512x1 .f32 := numHi (srcBlk m c n) (aug m c n)
def maskLoAt (c : Dev nD) (n : ℕ) : Vec F S512x1 .f32 := maskLo (wgtBlk m c n)
def maskHiAt (c : Dev nD) (n : ℕ) : Vec F S512x1 .f32 := maskHi (wgtBlk m c n)

/-- The row buffers after point `n`, started at `d`. -/
def rowDen (c : Dev nD) (d : Vec F S4096x1 .f32) (n : ℕ) : Vec F S4096x1 .f32 := accOver (putAt (denLoAt m c) (denHiAt m c)) d n
def rowNum (c : Dev nD) (d : Vec F S4096x1 .f32) (n : ℕ) : Vec F S4096x1 .f32 := accOver (putAt (numLoAt m c) (numHiAt m c)) d n
def rowMask (c : Dev nD) (d : Vec F S4096x1 .f32) (n : ℕ) : Vec F S4096x1 .f32 := accOver (putAt (maskLoAt m c) (maskHiAt m c)) d n

/-- The row buffers at the end of the batch of point `n`. -/
def rowDenEnd (c : Dev nD) (n : ℕ) : Vec F S4096x1 .f32 := rowsOf (denLoAt m c) (denHiAt m c) n
def rowNumEnd (c : Dev nD) (n : ℕ) : Vec F S4096x1 .f32 := rowsOf (numLoAt m c) (numHiAt m c) n
def rowMaskEnd (c : Dev nD) (n : ℕ) : Vec F S4096x1 .f32 := rowsOf (maskLoAt m c) (maskHiAt m c) n

/-- A point's rows start at 1024 times its place in the batch. -/
theorem rowOff_coords (t : Fin cfg0.N) : rowOff (grid0.coords t) = 1024 * (t.val % 4) := by
  have ht : t.val < 32 := Nat.lt_of_lt_of_eq t.isLt N_0
  have e1 : (grid0.coords t 1).val = t.val / 1 % 4 := Pipeline.Grid.coords_val t 1 (by decide) rfl
  rw [rowOff, e1, Nat.div_one]

/-! ## One point's change, as the body states it -/

/-- The column buffers at a batch's first point, -/
theorem colDen_first (c : Dev nD) (t : Fin cfg0.N) (h : t.val % 4 = 0) :
    denStep (iblk m c 0 t) (iblk m c 2 t) (k0_pay7 (iblk m c 1 t)) k0_pay8 = colDen m c t.val := by
  rw [colDen, accOver_first _ _ _ h, denAt, srcBlk_val, wgtBlk_val, aug_first m c t h]
theorem colNum_first (c : Dev nD) (t : Fin cfg0.N) (h : t.val % 4 = 0) :
    numStep (iblk m c 0 t) (iblk m c 2 t) (k0_pay7 (iblk m c 1 t)) k0_pay9 = colNum m c t.val := by
  rw [colNum, accOver_first _ _ _ h, numAt, srcBlk_val, wgtBlk_val, aug_first m c t h]
/-- And at a later one. -/
theorem colDen_next (c : Dev nD) (t : Fin cfg0.N) (h : ¬t.val % 4 = 0) :
    denStep (iblk m c 0 t) (iblk m c 2 t) (aug m c (t.val - 1)) (colDen m c (t.val - 1)) = colDen m c t.val := by
  rw [colDen, colDen, accOver_next _ _ t.val h, denAt, srcBlk_val, wgtBlk_val, ← aug_next m c _ h]
theorem colNum_next (c : Dev nD) (t : Fin cfg0.N) (h : ¬t.val % 4 = 0) :
    numStep (iblk m c 0 t) (iblk m c 2 t) (aug m c (t.val - 1)) (colNum m c (t.val - 1)) = colNum m c t.val := by
  rw [colNum, colNum, accOver_next _ _ t.val h, numAt, srcBlk_val, wgtBlk_val, ← aug_next m c _ h]

/-- The row buffers at a batch's first point, -/
theorem rowDen_first (c : Dev nD) (t : Fin cfg0.N) (h : t.val % 4 = 0) (d : Vec F S4096x1 .f32) :
    putRows (rowOff (grid0.coords t)) (denLo (iblk m c 0 t) (k0_pay7 (iblk m c 1 t))) (denHi (iblk m c 0 t) (k0_pay7 (iblk m c 1 t))) d
      = rowDen m c d t.val := by
  rw [rowDen, accOver_first _ _ _ h, putAt, denLoAt, denHiAt, srcBlk_val, aug_first m c t h, rowOff_coords]
theorem rowNum_first (c : Dev nD) (t : Fin cfg0.N) (h : t.val % 4 = 0) (d : Vec F S4096x1 .f32) :
    putRows (rowOff (grid0.coords t)) (numLo (iblk m c 0 t) (k0_pay7 (iblk m c 1 t))) (numHi (iblk m c 0 t) (k0_pay7 (iblk m c 1 t))) d
      = rowNum m c d t.val := by
  rw [rowNum, accOver_first _ _ _ h, putAt, numLoAt, numHiAt, srcBlk_val, aug_first m c t h, rowOff_coords]
theorem rowMask_first (c : Dev nD) (t : Fin cfg0.N) (h : t.val % 4 = 0) (d : Vec F S4096x1 .f32) :
    putRows (rowOff (grid0.coords t)) (maskLo (iblk m c 2 t)) (maskHi (iblk m c 2 t)) d = rowMask m c d t.val := by
  rw [rowMask, accOver_first _ _ _ h, putAt, maskLoAt, maskHiAt, wgtBlk_val, rowOff_coords]
/-- And at a later one. -/
theorem rowDen_next (c : Dev nD) (t : Fin cfg0.N) (h : ¬t.val % 4 = 0) (d : Vec F S4096x1 .f32) :
    putRows (rowOff (grid0.coords t)) (denLo (iblk m c 0 t) (aug m c (t.val - 1))) (denHi (iblk m c 0 t) (aug m c (t.val - 1)))
      (rowDen m c d (t.val - 1)) = rowDen m c d t.val := by
  rw [rowDen, rowDen, accOver_next _ _ t.val h, putAt, denLoAt, denHiAt, srcBlk_val, ← aug_next m c _ h, rowOff_coords]
theorem rowNum_next (c : Dev nD) (t : Fin cfg0.N) (h : ¬t.val % 4 = 0) (d : Vec F S4096x1 .f32) :
    putRows (rowOff (grid0.coords t)) (numLo (iblk m c 0 t) (aug m c (t.val - 1))) (numHi (iblk m c 0 t) (aug m c (t.val - 1)))
      (rowNum m c d (t.val - 1)) = rowNum m c d t.val := by
  rw [rowNum, rowNum, accOver_next _ _ t.val h, putAt, numLoAt, numHiAt, srcBlk_val, ← aug_next m c _ h, rowOff_coords]
theorem rowMask_next (c : Dev nD) (t : Fin cfg0.N) (h : ¬t.val % 4 = 0) (d : Vec F S4096x1 .f32) :
    putRows (rowOff (grid0.coords t)) (maskLo (iblk m c 2 t)) (maskHi (iblk m c 2 t)) (rowMask m c d (t.val - 1))
      = rowMask m c d t.val := by
  rw [rowMask, rowMask, accOver_next _ _ t.val h, putAt, maskLoAt, maskHiAt, wgtBlk_val, rowOff_coords]

/-- The four outputs of the batch of point `t`. -/
def outRowLoss (c : Dev nD) (n : ℕ) : Vec F S1x1x1 .f32 := k0_pay2 (rowMaskEnd m c n) (rowNumEnd m c n) (rowDenEnd m c n)
def outRowMask (c : Dev nD) (n : ℕ) : Vec F S1x1x1 .f32 := k0_pay3 (rowMaskEnd m c n)
def outColLoss (c : Dev nD) (t : Fin cfg0.N) : Vec F S1x1x1 .f32 := k0_pay5 (iblk m c 3 t) (colNum m c t.val) (colDen m c t.val)
def outColMask (c : Dev nD) (t : Fin cfg0.N) : Vec F S1x1x1 .f32 := k0_pay6 (iblk m c 3 t)

/-- At a batch's last point the row buffers hold no unwritten row, whatever they started from, -/
theorem outRowLoss_last (c : Dev nD) (t : Fin cfg0.N) (h : t.val % 4 = 3) (d₃ d₄ d₅ : Vec F S4096x1 .f32) :
    k0_pay2 (rowMask m c d₅ t.val) (rowNum m c d₄ t.val) (rowDen m c d₃ t.val) = outRowLoss m c t.val := by
  rw [rowMask, rowNum, rowDen, rows_full _ _ _ _ h, rows_full _ _ _ _ h, rows_full _ _ _ _ h]; rfl
/-- And the mask buffer neither. -/
theorem outRowMask_last (c : Dev nD) (t : Fin cfg0.N) (h : t.val % 4 = 3) (d₅ : Vec F S4096x1 .f32) :
    k0_pay3 (rowMask m c d₅ t.val) = outRowMask m c t.val := by
  rw [rowMask, rows_full _ _ _ _ h]; rfl

/-! ## The invariant and the proof data -/

/-- The scratch buffers after `n` points. -/
def PhiS (c : Dev nD) : (n : ℕ) → n ≤ cfg0.N → sProp 𝕄
  | 0, _ => Pipeline.ΦA spec0 c
  | n + 1, _ => iprop(iprop(owns (c : Thread nD τ) scM0_0 fullShare (colDen m c n) ∗ owns (c : Thread nD τ) scM0_1 fullShare (colNum m c n)
      ∗ owns (c : Thread nD τ) scM0_2 fullShare (aug m c n) ∗ (∃ d, owns (c : Thread nD τ) scM0_3 fullShare (rowDen m c d n))
      ∗ (∃ d, owns (c : Thread nD τ) scM0_4 fullShare (rowNum m c d n)) ∗ (∃ d, owns (c : Thread nD τ) scM0_5 fullShare (rowMask m c d n)))
      ∗ (∃ r, prngReg c r))

/-- Before the first point it is the launch's. -/
theorem PhiS_zero (c : Dev nD) (n : ℕ) (h : n ≤ cfg0.N) (hz : n = 0) : PhiS m c n h = Pipeline.ΦA spec0 c := by
  subst hz; rfl

/-- After a point it is what the point left. -/
theorem PhiS_pos (c : Dev nD) (n : ℕ) (h : n ≤ cfg0.N) (hz : n ≠ 0) : PhiS m c n h
    = iprop(iprop(owns (c : Thread nD τ) scM0_0 fullShare (colDen m c (n - 1)) ∗ owns (c : Thread nD τ) scM0_1 fullShare (colNum m c (n - 1))
      ∗ owns (c : Thread nD τ) scM0_2 fullShare (aug m c (n - 1)) ∗ (∃ d, owns (c : Thread nD τ) scM0_3 fullShare (rowDen m c d (n - 1)))
      ∗ (∃ d, owns (c : Thread nD τ) scM0_4 fullShare (rowNum m c d (n - 1))) ∗ (∃ d, owns (c : Thread nD τ) scM0_5 fullShare (rowMask m c d (n - 1))))
      ∗ (∃ r, prngReg c r)) := by
  cases n with
  | zero => exact absurd rfl hz
  | succ n => rfl

/-- The proof data of the launch: the arrays as the region finds them, each input's staging buffer at its block, each
    output's at its batch's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRowLoss m c t.val
    | ⟨5, _⟩ => outRowMask m c t.val
    | ⟨6, _⟩ => outColLoss m c t
    | ⟨7, _⟩ => outColMask m c t
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each staging buffer holds after the body, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outRowLoss m c t.val := by dsimp only [dats]
theorem after0_5 (c : Dev nD) (t : Fin cfg0.N) : (dats m 0 c).after 5 t = outRowMask m c t.val := by dsimp only [dats]
theorem after0_6 (c : Dev nD) (t : Fin cfg0.N) : (dats m 0 c).after 6 t = outColLoss m c t := by dsimp only [dats]
theorem after0_7 (c : Dev nD) (t : Fin cfg0.N) : (dats m 0 c).after 7 t = outColMask m c t := by dsimp only [dats]

/-- And what each input's holds before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Chamfer

end
-- ==== Proof.RunFirst.lean ====
/-
  The body at a batch's first block: it computes the augmented target, clears the column accumulators, and then takes one block's step.
-/
module

public import proofs.«01_k».proof.Proof.Steps

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first block of a batch. -/
theorem run_first (c : Dev nD) (i : grid0.Coords) (arg2 : Memref sig .tc .vmem S1x1024x5 .f32) (harg2 : arg2.IsWhole) (arg3 : Memref sig .tc .vmem S1x3x4096 .f32) (harg3 : arg3.IsWhole) (arg4 : Memref sig .tc .vmem S1x1024x1 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x4096 .f32) (harg10 : arg10.IsWhole) (arg11 : Memref sig .tc .vmem S1x4096 .f32) (harg11 : arg11.IsWhole) (arg12 : Memref sig .tc .vmem S5x4096 .f32) (harg12 : arg12.IsWhole) (arg13 : Memref sig .tc .vmem S4096x1 .f32) (harg13 : arg13.IsWhole) (arg14 : Memref sig .tc .vmem S4096x1 .f32) (harg14 : arg14.IsWhole) (arg15 : Memref sig .tc .vmem S4096x1 .f32) (harg15 : arg15.IsWhole) (hc0 : cond0_0 i) (hc1 : ¬cond0_1 i) (hc2 : ¬cond0_2 i)
    (x0 : Vec F S1x1024x5 .f32) (x1 : Vec F S1x3x4096 .f32) (x2 : Vec F S1x1024x1 .f32) (x3 : Vec F S1x1x4096 .f32) (y0 : Vec F S1x1x1 .f32) (y1 : Vec F S1x1x1 .f32) (y2 : Vec F S1x1x1 .f32) (y3 : Vec F S1x1x1 .f32) (xs0 : Vec F S1x4096 .f32) (xs1 : Vec F S1x4096 .f32) (xs2 : Vec F S5x4096 .f32) (xs3 : Vec F S4096x1 .f32) (xs4 : Vec F S4096x1 .f32) (xs5 : Vec F S4096x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare (denStep x0 x2 (k0_pay7 x1) k0_pay8) ∗ owns (c : Thread nD τ) arg11 fullShare (numStep x0 x2 (k0_pay7 x1) k0_pay9) ∗ owns (c : Thread nD τ) arg12 fullShare (k0_pay7 x1) ∗ owns (c : Thread nD τ) arg13 fullShare (putRows (rowOff i) (denLo x0 (k0_pay7 x1)) (denHi x0 (k0_pay7 x1)) xs3) ∗ owns (c : Thread nD τ) arg14 fullShare (putRows (rowOff i) (numLo x0 (k0_pay7 x1)) (numHi x0 (k0_pay7 x1)) xs4) ∗ owns (c : Thread nD τ) arg15 fullShare (putRows (rowOff i) (maskLo x2) (maskHi x2) xs5)) -∗ K ⟨⟩))
      ⊢ wp frame (wpE (defs₀ (F := F)) Variants.none c none) E (cc0_chamfer_fused i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_chamfer_fused_eq_skeleton]; unfold cc0_chamfer_fused_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H11]
  · iexists _; isplitr; swap; · iexact H11
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H12]
  · iexists _; isplitr; swap; · iexact H12
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H13]
  · iexists _; isplitr; swap; · iexact H13
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H14]
  · iexists _; isplitr; swap; · iexact H14
    ipureintro
    sl_unfold_run_names
    first | rw [View.read_writes_full] | rw [read_halves]
    (repeat rw [View.readAt_full]); (repeat rw [View.readCov_full]); (repeat rw [read_halves])
    (repeat rw [Memref.IsWhole.read_unread])
    try rfl
  · iexists _; isplitr; swap; · iexact H15
    ipureintro
    sl_unfold_run_names
    first | rw [View.read_writes_full] | rw [read_halves]
    (repeat rw [View.readAt_full]); (repeat rw [View.readCov_full]); (repeat rw [read_halves])
    (repeat rw [Memref.IsWhole.read_unread])
    try rfl

end Cert.KernelIdeal.Chamfer

end
-- ==== Proof.RunMiddle.lean ====
/-
  The body at a batch's middle block: it takes one block's step and leaves the outputs alone.
-/
module

public import proofs.«01_k».proof.Proof.Steps

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a middle block of a batch. -/
theorem run_middle (c : Dev nD) (i : grid0.Coords) (arg2 : Memref sig .tc .vmem S1x1024x5 .f32) (harg2 : arg2.IsWhole) (arg3 : Memref sig .tc .vmem S1x3x4096 .f32) (harg3 : arg3.IsWhole) (arg4 : Memref sig .tc .vmem S1x1024x1 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x4096 .f32) (harg10 : arg10.IsWhole) (arg11 : Memref sig .tc .vmem S1x4096 .f32) (harg11 : arg11.IsWhole) (arg12 : Memref sig .tc .vmem S5x4096 .f32) (harg12 : arg12.IsWhole) (arg13 : Memref sig .tc .vmem S4096x1 .f32) (harg13 : arg13.IsWhole) (arg14 : Memref sig .tc .vmem S4096x1 .f32) (harg14 : arg14.IsWhole) (arg15 : Memref sig .tc .vmem S4096x1 .f32) (harg15 : arg15.IsWhole) (hc0 : ¬cond0_0 i) (hc1 : ¬cond0_1 i) (hc2 : ¬cond0_2 i)
    (x0 : Vec F S1x1024x5 .f32) (x1 : Vec F S1x3x4096 .f32) (x2 : Vec F S1x1024x1 .f32) (x3 : Vec F S1x1x4096 .f32) (y0 : Vec F S1x1x1 .f32) (y1 : Vec F S1x1x1 .f32) (y2 : Vec F S1x1x1 .f32) (y3 : Vec F S1x1x1 .f32) (xs0 : Vec F S1x4096 .f32) (xs1 : Vec F S1x4096 .f32) (xs2 : Vec F S5x4096 .f32) (xs3 : Vec F S4096x1 .f32) (xs4 : Vec F S4096x1 .f32) (xs5 : Vec F S4096x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare (denStep x0 x2 xs2 xs0) ∗ owns (c : Thread nD τ) arg11 fullShare (numStep x0 x2 xs2 xs1) ∗ owns (c : Thread nD τ) arg12 fullShare xs2 ∗ owns (c : Thread nD τ) arg13 fullShare (putRows (rowOff i) (denLo x0 xs2) (denHi x0 xs2) xs3) ∗ owns (c : Thread nD τ) arg14 fullShare (putRows (rowOff i) (numLo x0 xs2) (numHi x0 xs2) xs4) ∗ owns (c : Thread nD τ) arg15 fullShare (putRows (rowOff i) (maskLo x2) (maskHi x2) xs5)) -∗ K ⟨⟩))
      ⊢ wp frame (wpE (defs₀ (F := F)) Variants.none c none) E (cc0_chamfer_fused i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_chamfer_fused_eq_skeleton]; unfold cc0_chamfer_fused_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H11]
  · iexists _; isplitr; swap; · iexact H11
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H12]
  · iexists _; isplitr; swap; · iexact H12
    ipureintro
    exact harg12.read_unread _
  isplitl [H13]
  · iexists _; isplitr; swap; · iexact H13
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H14]
  · iexists _; isplitr; swap; · iexact H14
    ipureintro
    sl_unfold_run_names
    first | rw [View.read_writes_full] | rw [read_halves]
    (repeat rw [View.readAt_full]); (repeat rw [View.readCov_full]); (repeat rw [read_halves])
    (repeat rw [Memref.IsWhole.read_unread])
    try rfl
  · iexists _; isplitr; swap; · iexact H15
    ipureintro
    sl_unfold_run_names
    first | rw [View.read_writes_full] | rw [read_halves]
    (repeat rw [View.readAt_full]); (repeat rw [View.readCov_full]); (repeat rw [read_halves])
    (repeat rw [Memref.IsWhole.read_unread])
    try rfl

end Cert.KernelIdeal.Chamfer

end
-- ==== Proof.RunLast.lean ====
/-
  The body at a batch's last block: it takes one block's step and then writes the batch's four outputs.
-/
module

public import proofs.«01_k».proof.Proof.Steps

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last block of a batch. -/
theorem run_last (c : Dev nD) (i : grid0.Coords) (arg2 : Memref sig .tc .vmem S1x1024x5 .f32) (harg2 : arg2.IsWhole) (arg3 : Memref sig .tc .vmem S1x3x4096 .f32) (harg3 : arg3.IsWhole) (arg4 : Memref sig .tc .vmem S1x1024x1 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x4096 .f32) (harg10 : arg10.IsWhole) (arg11 : Memref sig .tc .vmem S1x4096 .f32) (harg11 : arg11.IsWhole) (arg12 : Memref sig .tc .vmem S5x4096 .f32) (harg12 : arg12.IsWhole) (arg13 : Memref sig .tc .vmem S4096x1 .f32) (harg13 : arg13.IsWhole) (arg14 : Memref sig .tc .vmem S4096x1 .f32) (harg14 : arg14.IsWhole) (arg15 : Memref sig .tc .vmem S4096x1 .f32) (harg15 : arg15.IsWhole) (hc0 : ¬cond0_0 i) (hc1 : cond0_1 i) (hc2 : cond0_2 i)
    (x0 : Vec F S1x1024x5 .f32) (x1 : Vec F S1x3x4096 .f32) (x2 : Vec F S1x1024x1 .f32) (x3 : Vec F S1x1x4096 .f32) (y0 : Vec F S1x1x1 .f32) (y1 : Vec F S1x1x1 .f32) (y2 : Vec F S1x1x1 .f32) (y3 : Vec F S1x1x1 .f32) (xs0 : Vec F S1x4096 .f32) (xs1 : Vec F S1x4096 .f32) (xs2 : Vec F S5x4096 .f32) (xs3 : Vec F S4096x1 .f32) (xs4 : Vec F S4096x1 .f32) (xs5 : Vec F S4096x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (putRows (rowOff i) (maskLo x2) (maskHi x2) xs5) (putRows (rowOff i) (numLo x0 xs2) (numHi x0 xs2) xs4) (putRows (rowOff i) (denLo x0 xs2) (denHi x0 xs2) xs3)) ∗ owns (c : Thread nD τ) arg7 fullShare (k0_pay3 (putRows (rowOff i) (maskLo x2) (maskHi x2) xs5)) ∗ owns (c : Thread nD τ) arg8 fullShare (k0_pay5 x3 (numStep x0 x2 xs2 xs1) (denStep x0 x2 xs2 xs0)) ∗ owns (c : Thread nD τ) arg9 fullShare (k0_pay6 x3) ∗ owns (c : Thread nD τ) arg10 fullShare (denStep x0 x2 xs2 xs0) ∗ owns (c : Thread nD τ) arg11 fullShare (numStep x0 x2 xs2 xs1) ∗ owns (c : Thread nD τ) arg12 fullShare xs2 ∗ owns (c : Thread nD τ) arg13 fullShare (putRows (rowOff i) (denLo x0 xs2) (denHi x0 xs2) xs3) ∗ owns (c : Thread nD τ) arg14 fullShare (putRows (rowOff i) (numLo x0 xs2) (numHi x0 xs2) xs4) ∗ owns (c : Thread nD τ) arg15 fullShare (putRows (rowOff i) (maskLo x2) (maskHi x2) xs5)) -∗ K ⟨⟩))
      ⊢ wp frame (wpE (defs₀ (F := F)) Variants.none c none) E (cc0_chamfer_fused i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_chamfer_fused_eq_skeleton]; unfold cc0_chamfer_fused_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H7]
  · iexists _; isplitr; swap; · iexact H7
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H8]
  · iexists _; isplitr; swap; · iexact H8
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H9]
  · iexists _; isplitr; swap; · iexact H9
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H10]
  · iexists _; isplitr; swap; · iexact H10
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H11]
  · iexists _; isplitr; swap; · iexact H11
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H12]
  · iexists _; isplitr; swap; · iexact H12
    ipureintro
    exact harg12.read_unread _
  isplitl [H13]
  · iexists _; isplitr; swap; · iexact H13
    ipureintro
    sl_unfold_run_names
    first | rw [View.read_writes_full] | rw [read_halves]
    (repeat rw [View.readAt_full]); (repeat rw [View.readCov_full]); (repeat rw [read_halves])
    (repeat rw [Memref.IsWhole.read_unread])
    try rfl
  isplitl [H14]
  · iexists _; isplitr; swap; · iexact H14
    ipureintro
    sl_unfold_run_names
    first | rw [View.read_writes_full] | rw [read_halves]
    (repeat rw [View.readAt_full]); (repeat rw [View.readCov_full]); (repeat rw [read_halves])
    (repeat rw [Memref.IsWhole.read_unread])
    try rfl
  · iexists _; isplitr; swap; · iexact H15
    ipureintro
    sl_unfold_run_names
    first | rw [View.read_writes_full] | rw [read_halves]
    (repeat rw [View.readAt_full]); (repeat rw [View.readCov_full]); (repeat rw [read_halves])
    (repeat rw [Memref.IsWhole.read_unread])
    try rfl

end Cert.KernelIdeal.Chamfer

end
-- ==== Proof.Body.lean ====
/-
  The body's obligation at every grid point: from what the pipeline hands the body to what it must give back, by the
  three runs (a batch's first block, a middle block, the last block).
-/
module

public import proofs.«01_k».proof.Proof.Track
public import proofs.«01_k».proof.Proof.RunFirst
public import proofs.«01_k».proof.Proof.RunMiddle
public import proofs.«01_k».proof.Proof.RunLast

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every output window is written at a batch's last point and left alone at the others, -/
theorem idle_out (w : Fin cfg0.W) (hw : 4 ≤ w.val) (t : Fin cfg0.N) :
    cfg0.idle w (grid0.coords t) = !decide (t.val % 4 = 3) := by
  have h1 : (k0_cond2 (grid0.coords t) == 1#1) = decide (t.val % 4 = 3) :=
    Bool.eq_iff_iff.mpr (by rw [beq_iff_eq, decide_eq_true_iff]; exact hcond0_1 t)
  have h2 : (k0_cond3 (grid0.coords t) == 1#1) = decide (t.val % 4 = 3) :=
    Bool.eq_iff_iff.mpr (by rw [beq_iff_eq, decide_eq_true_iff]; exact hcond0_2 t)
  match w, hw with
  | ⟨4, _⟩, _ | ⟨5, _⟩, _ => exact congrArg (!·) h1
  | ⟨6, _⟩, _ | ⟨7, _⟩, _ => exact congrArg (!·) h2
/-- and is written back there alone. -/
theorem flush_out (w : Fin cfg0.W) (hw : 4 ≤ w.val) (t : Fin cfg0.N) : (cfg0.win w).flush t = true ↔ t.val % 4 = 3 :=
  match w, hw with
  | ⟨4, _⟩, _ => flush0_4 t
  | ⟨5, _⟩, _ => flush0_5 t
  | ⟨6, _⟩, _ => flush0_6 t
  | ⟨7, _⟩, _ => flush0_7 t

/-- A window that is not idle at a point leaves its buffer at the value the body gives it. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]
/-- An output window does so at a batch's last point, -/
theorem leaves_last (c : Dev nD) (w : Fin cfg0.W) (hw : 4 ≤ w.val) (t : Fin cfg0.N) (h : t.val % 4 = 3) :
    (dats m 0 c).leavesExact w t
      = owns (c : Thread nD τ) ((cfg0.win w).stage (cfg0.slots t w)) fullShare ((dats m 0 c).after w t) :=
  leaves_live m c w t (by rw [idle_out w hw, decide_eq_true h]; rfl)
/-- and at the others leaves what it held. -/
theorem leaves_idle (c : Dev nD) (w : Fin cfg0.W) (hw : 4 ≤ w.val) (t : Fin cfg0.N) (h : ¬t.val % 4 = 3) :
    (dats m 0 c).leavesExact w t
      = iprop(∃ d, owns (c : Thread nD τ) ((cfg0.win w).stage (cfg0.slots t w)) fullShare ((dats m 0 c).before w t d)) :=
  Dat.leavesExact_idle _ w t (by rw [idle_out w hw, decide_eq_false h]; rfl)
    (Bool.eq_false_iff.mpr fun hf => h ((flush_out w hw t).mp hf))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- After any number of points the scratch buffers are owned, their contents forgotten. -/
theorem PhiS_any (c : Dev nD) (n : ℕ) (h : n ≤ cfg0.N) : PhiS m c n h ⊢ Pipeline.ΦA spec0 c := by
  by_cases hz : n = 0
  · rw [PhiS_zero m c n h hz]
  rw [PhiS_pos m c n h hz, PhiA0_eq]
  iintro ⟨⟨HS0, HS1, HS2, ⟨%e3, HS3⟩, ⟨%e4, HS4⟩, ⟨%e5, HS5⟩⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option maxHeartbeats 4000000 in
/-- A batch's first point. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
  have h3 : ¬t.val % 4 = 3 := by omega
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_pos m c (t.val + 1) _ (Nat.succ_ne_zero _), Nat.add_sub_cancel,
    leaves_live m c 0 t rfl, leaves_live m c 1 t rfl, leaves_live m c 2 t rfl, leaves_live m c 3 t rfl, after0_0, after0_1, after0_2, after0_3,
    leaves_idle m c 4 (by decide) t h3, leaves_idle m c 5 (by decide) t h3, leaves_idle m c 6 (by decide) t h3, leaves_idle m c 7 (by decide) t h3,
    PhiS_castSucc m c t]
  refine (sep_mono (PhiS_any m c _ _) .rfl).trans ?_
  rw [PhiA0_eq]
  iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _ _ _ _ _ _ _ _ _ ((hcond0_0 t).mpr h0) (fun h => h3 ((hcond0_1 t).mp h)) (fun h => h3 ((hcond0_2 t).mp h)) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]
      · rw [← colDen_first m c t h0]; iexact HS0
      isplitl [HS1]
      · rw [← colNum_first m c t h0]; iexact HS1
      isplitl [HS2]
      · rw [aug_first m c t h0]; iexact HS2
      isplitl [HS3]
      · iexists e3; rw [← rowDen_first m c t h0 _]; iexact HS3
      isplitl [HS4]
      · iexists e4; rw [← rowNum_first m c t h0 _]; iexact HS4
      iexists e5; rw [← rowMask_first m c t h0 _]; iexact HS5
    iexact Hg
  isplitl [Ho]; · iexact Ho
  isplitl [H0]; · iexact H0
  isplitl [H1]; · iexact H1
  isplitl [H2]; · iexact H2
  isplitl [H3]; · iexact H3
  isplitl [H4]
  · iexists d4; iexact H4
  isplitl [H5]
  · iexists d5; iexact H5
  isplitl [H6]
  · iexists d6; iexact H6
  iexists d7; iexact H7

set_option maxHeartbeats 4000000 in
/-- A middle point. -/
theorem sound_middle (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_pos m c (t.val + 1) _ (Nat.succ_ne_zero _), Nat.add_sub_cancel,
    leaves_live m c 0 t rfl, leaves_live m c 1 t rfl, leaves_live m c 2 t rfl, leaves_live m c 3 t rfl, after0_0, after0_1, after0_2, after0_3,
    leaves_idle m c 4 (by decide) t h3, leaves_idle m c 5 (by decide) t h3, leaves_idle m c 6 (by decide) t h3, leaves_idle m c 7 (by decide) t h3,
    PhiS_castSucc m c t, PhiS_pos m c _ _ hz]
  iintro ⟨⟨⟨HS0, HS1, HS2, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_middle c (grid0.coords t) _ _ _ _ _ _ _ _ _ _ _ _ _ _ _ _ _ _ _ _ _ _ _ _ _ _ _ _ (fun h => h0 ((hcond0_0 t).mp h)) (fun h => h3 ((hcond0_1 t).mp h)) (fun h => h3 ((hcond0_2 t).mp h)) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]
      · rw [← colDen_next m c t h0]; iexact HS0
      isplitl [HS1]
      · rw [← colNum_next m c t h0]; iexact HS1
      isplitl [HS2]
      · rw [aug_next m c _ h0]; iexact HS2
      isplitl [HS3]
      · iexists e3; rw [← rowDen_next m c t h0 _]; iexact HS3
      isplitl [HS4]
      · iexists e4; rw [← rowNum_next m c t h0 _]; iexact HS4
      iexists e5; rw [← rowMask_next m c t h0 _]; iexact HS5
    iexact Hg
  isplitl [Ho]; · iexact Ho
  isplitl [H0]; · iexact H0
  isplitl [H1]; · iexact H1
  isplitl [H2]; · iexact H2
  isplitl [H3]; · iexact H3
  isplitl [H4]
  · iexists d4; iexact H4
  isplitl [H5]
  · iexists d5; iexact H5
  isplitl [H6]
  · iexists d6; iexact H6
  iexists d7; iexact H7

set_option maxHeartbeats 4000000 in
/-- A batch's last point. -/
theorem sound_last (c : Dev nD) (t : Fin cfg0.N) (h3 : t.val % 4 = 3) :
    bodyPre m c t ⊢ wp frame (wpE (defs₀ (F := F)) Variants.none c none) Set.univ (bodyAt0 t) (fun _ => bodyPost m c t) := by
  have h0 : ¬t.val % 4 = 0 := by omega
  have hz : t.val ≠ 0 := fun e => h0 (by rw [e])
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_pos m c (t.val + 1) _ (Nat.succ_ne_zero _), Nat.add_sub_cancel,
    leaves_live m c 0 t rfl, leaves_live m c 1 t rfl, leaves_live m c 2 t rfl, leaves_live m c 3 t rfl, after0_0, after0_1, after0_2, after0_3,
    leaves_last m c 4 (by decide) t h3, leaves_last m c 5 (by decide) t h3, leaves_last m c 6 (by decide) t h3, leaves_last m c 7 (by decide) t h3, after0_4, after0_5, after0_6, after0_7,
    PhiS_castSucc m c t, PhiS_pos m c _ _ hz]
  iintro ⟨⟨⟨HS0, HS1, HS2, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_last c (grid0.coords t) _ _ _ _ _ _ _ _ _ _ _ _ _ _ _ _ _ _ _ _ _ _ _ _ _ _ _ _ (fun h => h0 ((hcond0_0 t).mp h)) ((hcond0_1 t).mpr h3) ((hcond0_2 t).mpr h3) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]
      · rw [← colDen_next m c t h0]; iexact HS0
      isplitl [HS1]
      · rw [← colNum_next m c t h0]; iexact HS1
      isplitl [HS2]
      · rw [aug_next m c _ h0]; iexact HS2
      isplitl [HS3]
      · iexists e3; rw [← rowDen_next m c t h0 _]; iexact HS3
      isplitl [HS4]
      · iexists e4; rw [← rowNum_next m c t h0 _]; iexact HS4
      iexists e5; rw [← rowMask_next m c t h0 _]; iexact HS5
    iexact Hg
  isplitl [Ho]; · iexact Ho
  isplitl [H0]; · iexact H0
  isplitl [H1]; · iexact H1
  isplitl [H2]; · iexact H2
  isplitl [H3]; · iexact H3
  isplitl [H4]
  · rw [← outRowLoss_last m c t h3 e3 e4 e5, ← rowMask_next m c t h0, ← rowNum_next m c t h0, ← rowDen_next m c t h0]; iexact H4
  isplitl [H5]
  · rw [← outRowMask_last m c t h3 e5, ← rowMask_next m c t h0]; iexact H5
  isplitl [H6]
  · rw [outColLoss, ← colNum_next m c t h0, ← colDen_next m c t h0]; iexact H6
  rw [outColMask]; iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · by_cases h3 : t.val % 4 = 3
    · exact sound_last m c t h3
    · exact sound_middle m c t h0 h3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Chamfer

end
-- ==== Proof.Region.lean ====
/-
  The kernel's program run from any memory: it terminates, the argument arrays end unchanged, the counters end at zero,
  and every buffer's final contents are named: the region's arrays by the proof data, the rest by the host lines after it.
-/
module

public import proofs.«01_k».proof.Proof.Body
public import Idealize.ShloMosaic.Lib.Claim

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch buffers are given back, their contents forgotten. -/
theorem hout (c : Dev nD) : (dats m 0 c).Φ (Fin.last cfg0.N) ⊢ Pipeline.ΦA spec0 c :=
  PhiS_any m c (Fin.last cfg0.N).val (Nat.le_of_lt_succ (Fin.last cfg0.N).isLt)

/-- What every buffer holds at the end. -/
abbrev FinalPost (r : PUnit × MemSt nD τ sig (Elt F)) : Prop :=
  Pipeline.FramePost cfgs (dats m) 0 (Pipeline.afterTail₀ cfgs (dats m) 0 (V0 m) [hostOps1]) r

set_option backward.isDefEq.respectTransparency.types false in
set_option maxHeartbeats 800000 in
/-- The launch: the final contents, and every semaphore counter at zero. -/
theorem run_main_quiescent : θ_run defs (onTc (τ := τ) (main (F := F))) (s₀ m ρ) (fun r => FinalPost m r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
    (Q' := fun r => FinalPost m r ∧ r.2.sem = fun _ => 0) (hQ' := fun _ h => h)

/-- The launch ends with the final contents. -/
theorem run_main : θ_run defs (onTc (τ := τ) (main (F := F))) (s₀ m ρ) (FinalPost m) :=
  (θ_run defs _ _).mono (fun _ h => h.1) (run_main_quiescent m ρ)

/-- The argument arrays end as they were launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: arguments unchanged, counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Chamfer

end
-- ==== Proof.KernelFrame.lean ====
/-
  The printed kernel's frame. The kernel and its ideal print are the same program but for one constant, which the ideal
  print names; read with the name standing for its own word, the two are one program, so the frame proved for every
  reading of the ideal print is the kernel's own.
-/
module

public import proofs.«01_k».proof.Defs
public import proofs.«01_k».proof.Proof.Gen.Kernel
public import proofs.«01_k».proof.Proof.Region

@[expose] public section

noncomputable section

namespace Cert.Proof

open Idealize.ShloMosaic Idealize.SL.Sem

/-- At machine words a named constant is its own word. -/
local instance wordNamed : Named Bits where
  named := fun _ _ {φ} b => Scalar.ofBits φ b

/-- The two body functions are one at machine words. -/
theorem body_eq : @Cert.Kernel.cc0_chamfer_fused Bits _ _ = @Cert.KernelIdeal.cc0_chamfer_fused Bits _ _ _ := rfl

/-- So are the two body tables. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (by omega)

/-- And the two tables with the pipeline's own labels. -/
theorem tables_eq : Cert.Kernel.defs (F := Bits) = Cert.KernelIdeal.defs (F := Bits) :=
  congrArg (Pipeline.defs (Cert.Kernel.pcfgs (F := Bits))) bodies_eq

/-- And the two programs. -/
theorem main_eq : Cert.Kernel.main (F := Bits) = Cert.KernelIdeal.main (F := Bits) := rfl

/-- The kernel over machine words: arguments unchanged, counters at zero. -/
theorem kernel_frame : Cert.quiescent_Kernel (hKernel := Cert.Kernel.Gen.facts) := by
  intro m ρ _
  rw [tables_eq, main_eq]
  exact Cert.KernelIdeal.Chamfer.frame (F := Bits) m ρ

end Cert.Proof

end
-- ==== Proof.RefFrame.lean ====
/-
  The reference's frame: its arguments end unchanged, and it has no semaphore whose counter could be off zero.
-/
module

public import proofs.«01_k».proof.Defs
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.SL.Sem

/-- The reference: arguments unchanged, counters at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Blocks.lean ====
/-
  What the region finds in its arrays, and what each window's block holds at a point: elements of the argument arrays.
  Point `4 b + q` works on batch `b` and on rows `1024 q …` of its source points.
-/
module

public import proofs.«01_k».proof.Proof.Region
public import proofs.«01_k».proof.Proof.Equations
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arguments: the source points, the target points, the source mask and the target mask. -/
abbrev srcArr (c : Dev nD) : S8x4096x3.Idx → EReal := m ((c : Thread nD τ).loc main_arg0)
/-- The target points, -/
abbrev tgtArr (c : Dev nD) : S8x4096x3.Idx → EReal := m ((c : Thread nD τ).loc main_arg1)
/-- The source mask, -/
abbrev srcMask (c : Dev nD) : S8x4096.Idx → EReal := m ((c : Thread nD τ).loc main_arg2)
/-- And the target mask. -/
abbrev tgtMask (c : Dev nD) : S8x4096.Idx → EReal := m ((c : Thread nD τ).loc main_arg3)

/-! ## The arrays the host lines before the region leave -/

/-- The augmented source points: a point's coordinates, its squared length, and one. -/
theorem V_source (c : Dev nD) (b : Fin 8) (i : Fin 4096) (k : Fin 5) : V m c main_v4 (ix3 b i k)
    = if h : k.val < 3 then srcArr m c (ix3 b i ⟨k.val, h⟩)
      else if k.val - 3 < 1 then
        ∑ x : Fin 3, srcArr m c (ix3 b i x) * srcArr m c (ix3 b i x)
      else (1 : EReal) := by
  unfold V
  after_reads_at
  split
  · rfl
  split
  · refine Eq.trans (congrFun (StableHlo.unary_result' _ _ _ _) _) ?_
    after_reads_at
  · refine Eq.trans (congrFun (StableHlo.unary_result' _ _ _ _) _) ?_
    after_reads_at

/-- The target points, transposed. -/
theorem V_target (c : Dev nD) (b : Fin 8) (k : Fin 3) (j : Fin 4096) :
    V m c main_v5 (ix3 b k j) = tgtArr m c (ix3 b j k) := by
  unfold V
  after_reads_at

/-- The source mask as a column. -/
theorem V_mask (c : Dev nD) (b : Fin 8) (i : Fin 4096) (z : Fin 1) :
    V m c main_v6 (ix3 b i z) = srcMask m c (ix2 b i) := by
  unfold V
  after_reads_at

/-- The target mask as a row. -/
theorem V_targetMask (c : Dev nD) (b : Fin 8) (z : Fin 1) (j : Fin 4096) :
    V m c main_v7 (ix3 b z j) = tgtMask m c (ix2 b j) := by
  unfold V
  after_reads_at

/-! ## The blocks -/

/-- Every window's block index at a point. -/
theorem idx : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, 0, 0]
    ∧ win0_4.index t = ![t.val / 4, 0, 0] ∧ win0_5.index t = ![t.val / 4, 0, 0]
    ∧ win0_6.index t = ![t.val / 4, 0, 0] ∧ win0_7.index t = ![t.val / 4, 0, 0] :=
  (by decide +kernel : ∀ t : Fin grid0.N, _)

/-- The number of the point of batch `b` and tile `q`. -/
theorem pt_tile (b : Fin 8) (q : Fin 4) : (pt (4 * b.val + q.val)).val = 4 * b.val + q.val := Nat.mod_eq_of_lt (by omega)

/-- Row `r` of tile `q`. -/
def tileRow (q : Fin 4) (r : ℕ) (h : r < 1024) : Fin 4096 := ⟨1024 * q.val + r, by omega⟩

/-- The block of augmented source rows, -/
theorem src_read (c : Dev nD) (b : Fin 8) (q : Fin 4) (r : Fin 1024) (k : Fin 5) :
    srcBlk m c (4 * b.val + q.val) (ix3 0 r k) = V m c main_v4 (ix3 b (tileRow q r.val r.isLt) k) := by
  have h := pt_tile b q
  unfold srcBlk tileRow
  generalize pt (4 * b.val + q.val) = t at h
  blk_ext [iblk, idx t]

/-- of the source mask, -/
theorem wgt_read (c : Dev nD) (b : Fin 8) (q : Fin 4) (r : Fin 1024) (z : Fin 1) :
    wgtBlk m c (4 * b.val + q.val) (ix3 0 r z) = srcMask m c (ix2 b (tileRow q r.val r.isLt)) := by
  rw [← V_mask m c b _ z]
  have h := pt_tile b q
  unfold wgtBlk tileRow
  generalize pt (4 * b.val + q.val) = t at h
  blk_ext [iblk, idx t]

/-- of the batch's target points, -/
theorem tgt_read (c : Dev nD) (b : Fin 8) (q : Fin 4) (k : Fin 3) (j : Fin 4096) :
    tgtBlk m c (4 * b.val + q.val) (ix3 0 k j) = tgtArr m c (ix3 b j k) := by
  rw [← V_target m c b k j]
  have h := pt_tile b 0
  rw [show ((0 : Fin 4).val) = 0 from rfl, Nat.add_zero] at h
  unfold tgtBlk
  rw [show (4 * b.val + q.val) / 4 * 4 = 4 * b.val by omega]
  generalize pt (4 * b.val) = t at h
  blk_ext [iblk, idx t]

/-- and of the batch's target mask. -/
theorem targetMask_read (c : Dev nD) (b : Fin 8) (t : Fin cfg0.N) (h : t.val / 4 = b.val) (z : Fin 1) (j : Fin 4096) :
    iblk m c 3 t (ix3 0 z j) = tgtMask m c (ix2 b j) := by
  rw [← V_targetMask m c b z j]
  blk_ext [iblk, idx t]

end Cert.KernelIdeal.Chamfer

end
-- ==== Proof.Payloads.lean ====
/-
  The body's value expressions read at an index as real numbers, over any block whose augmented products are real.
-/
module

public import proofs.«01_k».proof.Proof.Steps
public import proofs.«01_k».proof.Proof.Equations
public import Idealize.ShloMosaic.Lib.Pointwise

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer (coe_sum)

/-! ## Scalars -/

/-- Two to the power of `a` times the named constant. -/
def weight (a : EReal) : EReal := Ideal.exp2 (a * (Named.named (F := Ideal) (φ := .f32) κ "neg_ten_log2e" 3244741834#32 : Ideal .f32))

/-- At a real number it is the exponential of minus ten times it. -/
theorem weight_coe (d : ℝ) : weight (d : EReal) = ((Real.exp (-10 * d) : ℝ) : EReal) := by
  unfold weight
  rw [IdealRules.named_const.ideal_named_scalar _ _ _ _ rfl, ← Cert.Chamfer.two_pow]
  refine (congrArg Ideal.exp2 (EReal.coe_mul d (-(10 * (Real.log 2)⁻¹))).symm).trans ?_
  exact Ideal.exp2_coe _

/-- The penalty of a real mask entry. -/
theorem penalty_coe (w : ℝ) : (1 - (w : EReal)) * Ideal.ofBits .f32 1092616192#32 = (((1 - w) * 10 : ℝ) : EReal) := by
  rw [Cert.Chamfer.lit_ten, EReal.coe_mul, EReal.coe_sub, EReal.coe_one]

/-- A quotient of real numbers with a nonzero divisor. -/
theorem div_real (a b : ℝ) (h : b ≠ 0) : Ideal.div (a : EReal) (b : EReal) = ((a / b : ℝ) : EReal) := by
  rw [Ideal.div_coe h, ← EReal.coe_mul, one_div, div_eq_mul_inv]

/-! ## A block's rows and columns -/

section

variable (x : Vec Ideal S1x1024x5 .f32) (w : Vec Ideal S1x1024x1 .f32) (T : Vec Ideal S5x4096 .f32)

/-- The first and the second half's rows of a block. -/
def loRow (r : Fin 512) : Fin 1024 := ⟨r.val, by omega⟩
/-- A row of the block's upper half. -/
def hiRow (r : Fin 512) : Fin 1024 := ⟨512 + r.val, by omega⟩

/-- The augmented product of row `r` and column `j`, and the penalty of row `r`. -/
def augProd (r : Fin 1024) (j : Fin 4096) : EReal := ∑ k : Fin 5, x (ix3 0 r k) * T (ix2 k j)
/-- A row's penalty. -/
def penalty (r : Fin 1024) : EReal := (1 - w (ix3 0 r 0)) * Ideal.ofBits .f32 1092616192#32

/-- The sum of a lower row's weights, read at the row, -/
theorem denLo_at (r : Fin 512) : denLo x T (ix2 r 0) = ∑ j, weight (augProd x T (loRow r) j) := by
  unfold denLo; unfold_payloads; pointwise; rfl
/-- And an upper row's. -/
theorem denHi_at (r : Fin 512) : denHi x T (ix2 r 0) = ∑ j, weight (augProd x T (hiRow r) j) := by
  unfold denHi; unfold_payloads; pointwise; rfl
/-- The weighted sum of a lower row, read at the row, -/
theorem numLo_at (r : Fin 512) : numLo x T (ix2 r 0) = ∑ j, augProd x T (loRow r) j * weight (augProd x T (loRow r) j) := by
  unfold numLo; unfold_payloads; pointwise; rfl
/-- And an upper row's. -/
theorem numHi_at (r : Fin 512) : numHi x T (ix2 r 0) = ∑ j, augProd x T (hiRow r) j * weight (augProd x T (hiRow r) j) := by
  unfold numHi; unfold_payloads; pointwise; rfl
/-- The mask of a lower row, -/
theorem maskLo_at (r : Fin 512) : maskLo w (ix2 r 0) = w (ix3 0 (loRow r) 0) := by
  unfold maskLo; unfold_payloads; pointwise; rfl
/-- And an upper row's. -/
theorem maskHi_at (r : Fin 512) : maskHi w (ix2 r 0) = w (ix3 0 (hiRow r) 0) := by
  unfold maskHi; unfold_payloads; pointwise; rfl
/-- What a block adds to a column's sum of weights, -/
theorem denStep_at (old : Vec Ideal S1x4096 .f32) (j : Fin 4096) : denStep x w T old (ix2 0 j) = (old (ix2 0 j) : EReal)
    + (∑ r, weight (augProd x T (loRow r) j) * weight (penalty w (loRow r))
      + ∑ r, weight (augProd x T (hiRow r) j) * weight (penalty w (hiRow r))) := by
  unfold denStep; unfold_payloads; pointwise; rfl
/-- And to its weighted sum. -/
theorem numStep_at (old : Vec Ideal S1x4096 .f32) (j : Fin 4096) : numStep x w T old (ix2 0 j) = (old (ix2 0 j) : EReal)
    + (∑ r, (augProd x T (loRow r) j + penalty w (loRow r)) * (weight (augProd x T (loRow r) j) * weight (penalty w (loRow r)))
      + ∑ r, (augProd x T (hiRow r) j + penalty w (hiRow r)) * (weight (augProd x T (hiRow r) j) * weight (penalty w (hiRow r)))) := by
  unfold numStep; unfold_payloads; pointwise; rfl

/-! The same where the augmented products `d` and the mask `v` are real. -/

variable (d : Fin 1024 → Fin 4096 → ℝ) (v : Fin 1024 → ℝ)

/-- The products with the mask's penalty. -/
def pen (r : Fin 1024) (j : Fin 4096) : ℝ := d r j + (1 - v r) * 10

variable (hd : ∀ r j, augProd x T r j = ((d r j : ℝ) : EReal)) (hw : ∀ r, w (ix3 0 r 0) = ((v r : ℝ) : EReal))

include hd in
/-- Over real products a lower row's sum of weights is real, -/
theorem denLo_real (r : Fin 512) : denLo x T (ix2 r 0) = ((∑ j, Real.exp (-10 * d (loRow r) j) : ℝ) : EReal) := by
  rw [denLo_at, coe_sum]; exact Finset.sum_congr rfl fun j _ => by rw [hd, weight_coe]
include hd in
/-- An upper row's too, -/
theorem denHi_real (r : Fin 512) : denHi x T (ix2 r 0) = ((∑ j, Real.exp (-10 * d (hiRow r) j) : ℝ) : EReal) := by
  rw [denHi_at, coe_sum]; exact Finset.sum_congr rfl fun j _ => by rw [hd, weight_coe]
include hd in
/-- A lower row's weighted sum, -/
theorem numLo_real (r : Fin 512) : numLo x T (ix2 r 0) = ((∑ j, d (loRow r) j * Real.exp (-10 * d (loRow r) j) : ℝ) : EReal) := by
  rw [numLo_at, coe_sum]; exact Finset.sum_congr rfl fun j _ => by rw [hd, weight_coe, EReal.coe_mul]
include hd in
/-- And an upper row's. -/
theorem numHi_real (r : Fin 512) : numHi x T (ix2 r 0) = ((∑ j, d (hiRow r) j * Real.exp (-10 * d (hiRow r) j) : ℝ) : EReal) := by
  rw [numHi_at, coe_sum]; exact Finset.sum_congr rfl fun j _ => by rw [hd, weight_coe, EReal.coe_mul]

include hw in
/-- A real mask entry's penalty is real. -/
theorem penalty_real (r : Fin 1024) : penalty w r = (((1 - v r) * 10 : ℝ) : EReal) := by
  unfold penalty; rw [hw]; exact penalty_coe _

include hd hw in
/-- A column's weight of a row: the two factors together are the exponential of the penalised product. -/
theorem weight_pen (r : Fin 1024) (j : Fin 4096) :
    weight (augProd x T r j) * weight (penalty w r) = ((Real.exp (-10 * pen d v r j) : ℝ) : EReal) := by
  rw [hd, penalty_real w v hw, weight_coe, weight_coe, ← EReal.coe_mul, ← Real.exp_add, pen]
  congr 2; ring

include hd hw in
/-- What a block adds to a column's sum of weights is real, -/
theorem denStep_real (old : Vec Ideal S1x4096 .f32) (j : Fin 4096) : denStep x w T old (ix2 0 j) = (old (ix2 0 j) : EReal)
    + ((∑ r, Real.exp (-10 * pen d v (loRow r) j) + ∑ r, Real.exp (-10 * pen d v (hiRow r) j) : ℝ) : EReal) := by
  rw [denStep_at, EReal.coe_add, coe_sum, coe_sum]
  simp only [weight_pen x w T d v hd hw]

include hd hw in
/-- And what it adds to the weighted sum. -/
theorem numStep_real (old : Vec Ideal S1x4096 .f32) (j : Fin 4096) : numStep x w T old (ix2 0 j) = (old (ix2 0 j) : EReal)
    + ((∑ r, pen d v (loRow r) j * Real.exp (-10 * pen d v (loRow r) j)
      + ∑ r, pen d v (hiRow r) j * Real.exp (-10 * pen d v (hiRow r) j) : ℝ) : EReal) := by
  have e : ∀ r, augProd x T r j + penalty w r = ((pen d v r j : ℝ) : EReal) := fun r => by
    rw [hd, penalty_real w v hw, pen, EReal.coe_add]
  rw [numStep_at, EReal.coe_add, coe_sum, coe_sum]
  simp only [weight_pen x w T d v hd hw, e, EReal.coe_mul]

end

/-! ## The batch's outputs -/

/-- The masked row loss and the row mask's sum of a batch. -/
theorem pay2_at (x y z : Vec Ideal S4096x1 .f32) (j : S1x1x1.Idx) :
    k0_pay2 x y z j = ∑ i : Fin 4096, Ideal.div (y (ix2 i 0)) (z (ix2 i 0)) * x (ix2 i 0) := by
  unfold_payloads; pointwise
/-- The sum of a whole column buffer. -/
theorem pay3_at (x : Vec Ideal S4096x1 .f32) (j : S1x1x1.Idx) : k0_pay3 x j = ∑ i : Fin 4096, (x (ix2 i 0) : EReal) := by
  unfold_payloads; pointwise
/-- The masked column loss and the column mask's sum of a batch. -/
theorem pay5_at (x : Vec Ideal S1x1x4096 .f32) (y z : Vec Ideal S1x4096 .f32) (j : S1x1x1.Idx) :
    k0_pay5 x y z j = ∑ i : Fin 4096, Ideal.div (y (ix2 0 i)) (z (ix2 0 i)) * x (ix3 0 0 i) := by
  unfold_payloads; pointwise
/-- The sum of a mask block. -/
theorem pay6_at (x : Vec Ideal S1x1x4096 .f32) (j : S1x1x1.Idx) : k0_pay6 x j = ∑ i : Fin 4096, (x (ix3 0 0 i) : EReal) := by
  unfold_payloads; pointwise
/-- The accumulators start at zero. -/
theorem pay8_at (j : Fin 4096) : k0_pay8 (F := Ideal) (ix2 0 j) = (0 : EReal) := by
  unfold_payloads; pointwise
/-- The start of a weighted sum is zero. -/
theorem pay9_at (j : Fin 4096) : k0_pay9 (F := Ideal) (ix2 0 j) = (0 : EReal) := by
  unfold_payloads; pointwise

/-! ## The augmented target -/

/-- The augmented target over a block of target points: minus twice the point over the squared scale, one over the squared
    scale, the squared length over the squared scale. -/
theorem pay7_at (t : Vec Ideal S1x3x4096 .f32) (σ : EReal)
    (hσ : Cert.Chamfer.scaleE (fun j k => t (ix3 0 k j)) = σ) (k : Fin 5) (j : Fin 4096) :
    k0_pay7 t (ix2 k j) = if h : k.val < 3 then (t (ix3 0 ⟨k.val, h⟩ j) : EReal) * (((-2 : ℝ) : EReal) * (Ideal.div 1 σ * Ideal.div 1 σ))
      else if k.val - 3 < 1 then Ideal.div 1 σ * Ideal.div 1 σ
      else (∑ l : Fin 3, (t (ix3 0 l j) : EReal) * t (ix3 0 l j)) * (Ideal.div 1 σ * Ideal.div 1 σ) := by
  rw [← hσ]
  unfold_payloads
  pointwise
  simp only [Cert.Chamfer.lit_neg_two, Cert.Chamfer.lit_bot, Cert.Chamfer.lit_top, Cert.Chamfer.lit_eps]
  rfl

end Cert.KernelIdeal.Chamfer

end
-- ==== Proof.Values.lean ====
/-
  The region's values over real points and a real source mask: the augmented products are the scaled squared distances,
  a batch's rows and columns are the softmax sums over all 4096 points, and its four outputs are the masked losses and the
  masks' sums.
-/
module

public import proofs.«01_k».proof.Proof.Blocks
public import proofs.«01_k».proof.Proof.Payloads

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)
open Cert.Chamfer (coe_sum D P soft lossRow lossCol scale scaleE_coe scale_pos dist_augmented weights_pos)

/-! ## Sums over the tiles of a batch -/

/-- The sum over a batch's rows, tile by tile and half by half. -/
theorem sum_tiles (g : Fin 4096 → ℝ) :
    (∑ q : Fin 4, (∑ r : Fin 512, g (tileRow q (loRow r).val (loRow r).isLt) + ∑ r : Fin 512, g (tileRow q (hiRow r).val (hiRow r).isLt)))
      = ∑ i, g i := by
  let f : ℕ → ℝ := fun n => if h : n < 4096 then g ⟨n, h⟩ else 0
  have hf : ∀ i : Fin 4096, g i = f i.val := fun i => by simp [f]
  simp only [hf, Fin.sum_univ_eq_sum_range (fun n => f n) 4096, tileRow, loRow, hiRow]
  have e : ∀ a, (∑ r : Fin 512, f (a + r.val)) = ∑ n ∈ Finset.range 512, f (a + n) := fun a =>
    Fin.sum_univ_eq_sum_range (fun n => f (a + n)) 512
  simp only [← Nat.add_assoc, e, Fin.sum_univ_four]
  have s : ∀ a b, (∑ n ∈ Finset.range a, f n) + (∑ n ∈ Finset.range b, f (a + n)) = ∑ n ∈ Finset.range (a + b), f n := fun a b =>
    (Finset.sum_range_add f a b).symm
  have z : (∑ n ∈ Finset.range 512, f (1024 * (0 : Fin 4).val + n)) = ∑ n ∈ Finset.range 512, f n :=
    Finset.sum_congr rfl fun n _ => by simp
  rw [z]
  have s1 := s 512 512
  have s2 := s 1024 512
  have s3 := s 1536 512
  have s4 := s 2048 512
  have s5 := s 2560 512
  have s6 := s 3072 512
  have s7 := s 3584 512
  norm_num at *
  linarith

section

variable (c : Dev nD) (S T : Fin 8 → Fin 4096 → Fin 3 → ℝ) (W : Fin 8 → Fin 4096 → ℝ)
variable (hS : ∀ b i k, srcArr m c (ix3 b i k) = ((S b i k : ℝ) : EReal))
variable (hT : ∀ b j k, tgtArr m c (ix3 b j k) = ((T b j k : ℝ) : EReal))
variable (hW : ∀ b i, srcMask m c (ix2 b i) = ((W b i : ℝ) : EReal))

/-! ## The augmented products -/

include hT in
/-- The batch's scale, as the body computes it. -/
theorem scale_real (b : Fin 8) (q : Fin 4) :
    Cert.Chamfer.scaleE (fun j k => tgtBlk m c (4 * b.val + q.val) (ix3 0 k j)) = ((scale (T b) : ℝ) : EReal) := by
  rw [← scaleE_coe]
  refine congrArg Cert.Chamfer.scaleE (funext fun j => funext fun k => ?_)
  rw [tgt_read, hT]

include hS in
/-- The augmented source row's entries: the coordinates, the squared length, one. -/
theorem src_coord (b : Fin 8) (q : Fin 4) (r : Fin 1024) (k : Fin 3) :
    srcBlk m c (4 * b.val + q.val) (ix3 0 r k.castSucc.castSucc) = ((S b (tileRow q r.val r.isLt) k : ℝ) : EReal) := by
  refine ((src_read m c b q r _).trans (V_source m c b _ _)).trans ?_
  rw [dif_pos (show k.castSucc.castSucc.val < 3 from k.isLt)]
  exact hS b _ k
include hS in
/-- Its fourth entry is the squared length, -/
theorem src_square (b : Fin 8) (q : Fin 4) (r : Fin 1024) :
    srcBlk m c (4 * b.val + q.val) (ix3 0 r (Fin.last 3).castSucc)
      = ((∑ k, S b (tileRow q r.val r.isLt) k * S b (tileRow q r.val r.isLt) k : ℝ) : EReal) := by
  refine ((src_read m c b q r _).trans (V_source m c b _ _)).trans ?_
  rw [dif_neg (by decide), if_pos (by decide), coe_sum]
  exact Finset.sum_congr rfl fun k _ => by rw [hS, EReal.coe_mul]
/-- And its fifth is one. -/
theorem src_one (b : Fin 8) (q : Fin 4) (r : Fin 1024) :
    srcBlk m c (4 * b.val + q.val) (ix3 0 r (Fin.last 4)) = ((1 : ℝ) : EReal) := by
  refine ((src_read m c b q r _).trans (V_source m c b _ _)).trans ?_
  rw [dif_neg (by decide), if_neg (by decide), EReal.coe_one]

/-- One over the squared scale. -/
theorem inv_scale (b : Fin 8) : Ideal.div 1 ((scale (T b) : ℝ) : EReal) * Ideal.div 1 ((scale (T b) : ℝ) : EReal)
    = ((1 / scale (T b) * (1 / scale (T b)) : ℝ) : EReal) := by
  rw [EReal.coe_mul, ← EReal.coe_one, div_real _ _ (scale_pos (T b)).ne']

include hT in
/-- The augmented target column's entries. -/
theorem aug_coord (b : Fin 8) (q : Fin 4) (k : Fin 3) (j : Fin 4096) : aug m c (4 * b.val + q.val) (ix2 k.castSucc.castSucc j)
    = ((T b j k * (-2 * (1 / scale (T b) * (1 / scale (T b)))) : ℝ) : EReal) := by
  refine (pay7_at _ _ (scale_real m c T hT b q) _ _).trans ?_
  rw [dif_pos (show k.castSucc.castSucc.val < 3 from k.isLt), inv_scale, EReal.coe_mul (T b j k), EReal.coe_mul (-2)]
  exact congrArg (· * _) ((tgt_read m c b q k j).trans (hT b j k))
include hT in
/-- Its fourth is the squared inverse scale, -/
theorem aug_one (b : Fin 8) (q : Fin 4) (j : Fin 4096) : aug m c (4 * b.val + q.val) (ix2 (Fin.last 3).castSucc j)
    = ((1 / scale (T b) * (1 / scale (T b)) : ℝ) : EReal) := by
  refine (pay7_at _ _ (scale_real m c T hT b q) _ _).trans ?_
  rw [dif_neg (by decide), if_pos (by decide), inv_scale]
include hT in
/-- And its fifth the scaled squared length. -/
theorem aug_square (b : Fin 8) (q : Fin 4) (j : Fin 4096) : aug m c (4 * b.val + q.val) (ix2 (Fin.last 4) j)
    = (((∑ k, T b j k * T b j k) * (1 / scale (T b) * (1 / scale (T b))) : ℝ) : EReal) := by
  refine (pay7_at _ _ (scale_real m c T hT b q) _ _).trans ?_
  rw [dif_neg (by decide), if_neg (by decide), inv_scale, EReal.coe_mul (∑ k, T b j k * T b j k), coe_sum]
  refine congrArg (· * _) (Finset.sum_congr rfl fun k _ => ?_)
  rw [tgt_read, hT, EReal.coe_mul]

include hS hT in
/-- The augmented product of a source row and a target column is their scaled squared distance. -/
theorem augProd_real (b : Fin 8) (q : Fin 4) (r : Fin 1024) (j : Fin 4096) :
    augProd (srcBlk m c (4 * b.val + q.val)) (aug m c (4 * b.val + q.val)) r j
      = ((D S T b (tileRow q r.val r.isLt) j : ℝ) : EReal) := by
  unfold augProd D
  rw [← dist_augmented, Fin.sum_univ_castSucc, Fin.sum_univ_castSucc, src_one, aug_square m c T hT, src_square m c S hS, aug_one m c T hT,
    EReal.coe_add, EReal.coe_add, coe_sum Finset.univ fun k => S b _ k * (T b j k * _), EReal.coe_one, one_mul,
    EReal.coe_mul (∑ k, S b _ k * S b _ k)]
  refine congrArg (· + _ + _) (Finset.sum_congr rfl fun k _ => ?_)
  rw [src_coord m c S hS, aug_coord m c T hT]
  exact (EReal.coe_mul _ _).symm

include hW in
/-- The mask's block. -/
theorem wgt_real (b : Fin 8) (q : Fin 4) (r : Fin 1024) :
    wgtBlk m c (4 * b.val + q.val) (ix3 0 r 0) = ((W b (tileRow q r.val r.isLt) : ℝ) : EReal) := by
  rw [wgt_read, hW]

/-! ## The rows of a batch -/

/-- A batch's row buffer, from what its points write at each row of each tile. -/
theorem rows_at (lo hi : ℕ → Vec Ideal S512x1 .f32) (b : Fin 8) (g : Fin 4096 → EReal)
    (hlo : ∀ (q : Fin 4) (r : Fin 512), lo (4 * b.val + q.val) (ix2 r 0) = g (tileRow q (loRow r).val (loRow r).isLt))
    (hhi : ∀ (q : Fin 4) (r : Fin 512), hi (4 * b.val + q.val) (ix2 r 0) = g (tileRow q (hiRow r).val (hiRow r).isLt))
    (n : ℕ) (hn : n / 4 = b.val) (i : Fin 4096) : rowsOf lo hi n (ix2 i 0) = g i := by
  have e : ∀ (r : ℕ) (h : r < 512), halfIx r h = ix2 ⟨r, h⟩ 0 := fun r h => eq_ix2 _
  unfold rowsOf
  rw [hn]
  show (if h : i.val % 1024 < 512 then _ else _) = _
  split
  · rename_i h
    refine Eq.trans ?_ ((hlo ⟨i.val / 1024, by omega⟩ ⟨i.val % 1024, h⟩).trans (congrArg g (Fin.ext ?_)))
    · exact congrArg (lo _) (e _ _)
    · show 1024 * (i.val / 1024) + i.val % 1024 = i.val; omega
  · rename_i h
    refine Eq.trans ?_ ((hhi ⟨i.val / 1024, by omega⟩ ⟨i.val % 1024 - 512, by omega⟩).trans (congrArg g (Fin.ext ?_)))
    · exact congrArg (hi _) (e _ _)
    · show 1024 * (i.val / 1024) + (512 + (i.val % 1024 - 512)) = i.val; omega

include hS hT in
/-- A source point's sum of weights at the end of its batch, -/
theorem rowDen_real (b : Fin 8) (n : ℕ) (hn : n / 4 = b.val) (i : Fin 4096) :
    rowDenEnd m c n (ix2 i 0) = ((∑ j, Real.exp (-10 * D S T b i j) : ℝ) : EReal) :=
  rows_at _ _ b (fun i => ((∑ j, Real.exp (-10 * D S T b i j) : ℝ) : EReal))
    (fun q r => denLo_real _ _ _ (augProd_real m c S T hS hT b q) r) (fun q r => denHi_real _ _ _ (augProd_real m c S T hS hT b q) r) n hn i
include hS hT in
/-- Its weighted sum, -/
theorem rowNum_real (b : Fin 8) (n : ℕ) (hn : n / 4 = b.val) (i : Fin 4096) :
    rowNumEnd m c n (ix2 i 0) = ((∑ j, D S T b i j * Real.exp (-10 * D S T b i j) : ℝ) : EReal) :=
  rows_at _ _ b (fun i => ((∑ j, D S T b i j * Real.exp (-10 * D S T b i j) : ℝ) : EReal))
    (fun q r => numLo_real _ _ _ (augProd_real m c S T hS hT b q) r) (fun q r => numHi_real _ _ _ (augProd_real m c S T hS hT b q) r) n hn i
include hW in
/-- And its mask. -/
theorem rowMask_real (b : Fin 8) (n : ℕ) (hn : n / 4 = b.val) (i : Fin 4096) :
    rowMaskEnd m c n (ix2 i 0) = ((W b i : ℝ) : EReal) :=
  rows_at _ _ b (fun i => ((W b i : ℝ) : EReal))
    (fun q r => (maskLo_at _ r).trans (wgt_real m c W hW b q _)) (fun q r => (maskHi_at _ r).trans (wgt_real m c W hW b q _)) n hn i

include hS hT hW in
/-- The batch's masked row loss. -/
theorem rowLoss_real (b : Fin 8) (n : ℕ) (hn : n / 4 = b.val) (y : S1x1x1.Idx) : outRowLoss m c n y = lossRow S T W b := by
  refine (pay2_at _ _ _ y).trans (Finset.sum_congr rfl fun i _ => ?_)
  rw [rowNum_real m c S T hS hT b n hn, rowDen_real m c S T hS hT b n hn, rowMask_real m c W hW b n hn,
    div_real _ _ (weights_pos (n := 4095) (D S T b i)).ne']
  rfl
include hW in
/-- The batch's sum of the source mask. -/
theorem rowMaskSum_real (b : Fin 8) (n : ℕ) (hn : n / 4 = b.val) (y : S1x1x1.Idx) :
    outRowMask m c n y = ∑ i, ((W b i : ℝ) : EReal) :=
  (pay3_at _ y).trans (Finset.sum_congr rfl fun i _ => rowMask_real m c W hW b n hn i)

/-! ## The columns of a batch -/

/-- An accumulator over a batch's four points, each adding a real number to it at `y`. -/
theorem acc_at (f : ℕ → Vec Ideal S1x4096 .f32 → Vec Ideal S1x4096 .f32) (z : Vec Ideal S1x4096 .f32) (b : Fin 8) (y : S1x4096.Idx)
    (g : Fin 4 → ℝ) (hz : z y = (0 : EReal))
    (hf : ∀ (q : Fin 4) (old : Vec Ideal S1x4096 .f32), f (4 * b.val + q.val) old y = (old y : EReal) + ((g q : ℝ) : EReal)) :
    accOver f z (4 * b.val + 3) y = ((∑ q, g q : ℝ) : EReal) := by
  have h0 := hf 0
  have h1 := hf 1
  have h2 := hf 2
  have h3 := hf 3
  simp only [show (0 : Fin 4).val = 0 from rfl, show (1 : Fin 4).val = 1 from rfl, show (2 : Fin 4).val = 2 from rfl,
    show (3 : Fin 4).val = 3 from rfl] at h0 h1 h2 h3
  rw [accOver_last f z _ (by omega), show 4 * b.val + 3 - 1 = 4 * b.val + 2 by omega, show 4 * b.val + 3 - 2 = 4 * b.val + 1 by omega,
    show 4 * b.val + 3 - 3 = 4 * b.val + 0 by omega, h3, h2, h1, h0, hz, Fin.sum_univ_four, zero_add, EReal.coe_add, EReal.coe_add, EReal.coe_add]

include hS hT hW in
/-- A target point's sum of weights at the end of its batch, -/
theorem colDen_real (b : Fin 8) (j : Fin 4096) :
    colDen m c (4 * b.val + 3) (ix2 0 j) = ((∑ i, Real.exp (-10 * P S T W b j i) : ℝ) : EReal) := by
  rw [← sum_tiles]
  exact acc_at _ _ b _ _ (pay8_at j) fun q old =>
    denStep_real _ _ _ (fun r j => D S T b (tileRow q r.val r.isLt) j) (fun r => W b (tileRow q r.val r.isLt))
      (augProd_real m c S T hS hT b q) (wgt_real m c W hW b q) old j
include hS hT hW in
/-- And its weighted sum. -/
theorem colNum_real (b : Fin 8) (j : Fin 4096) :
    colNum m c (4 * b.val + 3) (ix2 0 j) = ((∑ i, P S T W b j i * Real.exp (-10 * P S T W b j i) : ℝ) : EReal) := by
  rw [← sum_tiles (fun i => P S T W b j i * Real.exp (-10 * P S T W b j i))]
  exact acc_at _ _ b _ _ (pay9_at j) fun q old =>
    numStep_real _ _ _ (fun r j => D S T b (tileRow q r.val r.isLt) j) (fun r => W b (tileRow q r.val r.isLt))
      (augProd_real m c S T hS hT b q) (wgt_real m c W hW b q) old j

include hS hT hW in
/-- The batch's masked column loss. -/
theorem colLoss_real (b : Fin 8) (t : Fin cfg0.N) (ht : t.val = 4 * b.val + 3) (y : S1x1x1.Idx) :
    outColLoss m c t y = lossCol S T W (fun b j => tgtMask m c (ix2 b j)) b := by
  unfold outColLoss
  rw [ht]
  refine (pay5_at _ _ _ y).trans (Finset.sum_congr rfl fun j _ => ?_)
  rw [colNum_real m c S T W hS hT hW, colDen_real m c S T W hS hT hW, div_real _ _ (weights_pos (n := 4095) (P S T W b j)).ne',
    targetMask_read m c b t (by omega)]
  rfl
/-- The batch's sum of the target mask. -/
theorem colMaskSum_real (b : Fin 8) (t : Fin cfg0.N) (ht : t.val = 4 * b.val + 3) (y : S1x1x1.Idx) :
    outColMask m c t y = ∑ j, tgtMask m c (ix2 b j) :=
  (pay6_at _ y).trans (Finset.sum_congr rfl fun j _ => targetMask_read m c b t (by omega) 0 j)

end

end Cert.KernelIdeal.Chamfer

end
-- ==== Proof.Final.lean ====
/-
  The kernel program's result: what the region leaves in its four output arrays, and the loss the host lines after it
  compute from them.
-/
module

public import proofs.«01_k».proof.Proof.Values
public import Idealize.ShloMosaic.Lib.Pipeline.ValueKit
public import Idealize.ShloMosaic.Lib.StableHlo.ReadAt

@[expose] public section

set_option maxRecDepth 16384

noncomputable section

namespace Cert.KernelIdeal.Chamfer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)
variable (ρ : Dev nD → PrngReg)
open Cert.Chamfer (lossRow lossCol loss eps)

/-- A loss's two quotients read off four arrays of one number per batch. -/
def quotients (a₀ a₁ a₂ a₃ : S8x1x1.Idx → EReal) : EReal :=
  Ideal.div (∑ b : Fin 8, a₀ (ix3 b 0 0)) ((∑ b : Fin 8, a₁ (ix3 b 0 0)) + (eps : EReal))
    + Ideal.div (∑ b : Fin 8, a₂ (ix3 b 0 0)) ((∑ b : Fin 8, a₃ (ix3 b 0 0)) + (eps : EReal))

/-- The host lines after the region, from any contents of the buffers. -/
theorem tail_at (X : Valuation τ sig (Elt Ideal)) : StableHlo.after (List.flatten [hostOps1]) X (Proc.devRef .tc main_v17)
    = fun _ => quotients (X (Proc.devRef .tc main_v8_0)) (X (Proc.devRef .tc main_v8_1)) (X (Proc.devRef .tc main_v8_2))
      (X (Proc.devRef .tc main_v8_3)) := by
  funext j
  after_reads_at
  simp only [Cert.Chamfer.lit_eps, Fin.sum_univ_one]
  rfl

/-- The batch of a point. -/
def batch (t : Fin cfg0.N) : Fin 8 := ⟨t.val / 4, by have := lt_of_lt_of_eq t.isLt N_0; omega⟩
/-- It is the quotient of the point by the four points of a batch. -/
theorem batch_val (t : Fin cfg0.N) : t.val / 4 = (batch t).val := rfl

/-- An array of one number per batch. -/
def perBatch (f : Fin 8 → EReal) : S8x1x1.Idx → EReal := fun j => f (j 0)

/-- At a cell that is batch `b`'s it holds `b`'s number. -/
theorem perBatch_at (f : Fin 8 → EReal) (j : S8x1x1.Idx) (b : Fin 8) (h : j = ix3 b 0 0) : perBatch f j = f b := by
  subst h; rfl

section

variable (c : Dev nD) (S T : Fin 8 → Fin 4096 → Fin 3 → ℝ) (W : Fin 8 → Fin 4096 → ℝ)
variable (hS : ∀ b i k, srcArr m c (ix3 b i k) = ((S b i k : ℝ) : EReal))
variable (hT : ∀ b j k, tgtArr m c (ix3 b j k) = ((T b j k : ℝ) : EReal))
variable (hW : ∀ b i, srcMask m c (ix2 b i) = ((W b i : ℝ) : EReal))

/-- Where the four output windows' blocks lie: at the batch's cell. -/
theorem emb_4 (t : Fin cfg0.N) (y : S1x1x1.Idx) : ((win0_4.blk t).view.emb y : S8x1x1.Idx) = ix3 (batch t) 0 0 := by
  blk_ext [idx t, batch]

/-- And so has the second, -/
theorem emb_5 (t : Fin cfg0.N) (y : S1x1x1.Idx) : ((win0_5.blk t).view.emb y : S8x1x1.Idx) = ix3 (batch t) 0 0 := by
  blk_ext [idx t, batch]
/-- The third -/
theorem emb_6 (t : Fin cfg0.N) (y : S1x1x1.Idx) : ((win0_6.blk t).view.emb y : S8x1x1.Idx) = ix3 (batch t) 0 0 := by
  blk_ext [idx t, batch]
/-- And the fourth. -/
theorem emb_7 (t : Fin cfg0.N) (y : S1x1x1.Idx) : ((win0_7.blk t).view.emb y : S8x1x1.Idx) = ix3 (batch t) 0 0 := by
  blk_ext [idx t, batch]

/-- A batch's last point. -/
theorem last_val (t : Fin cfg0.N) (h : t.val % 4 = 3) : t.val = 4 * (batch t).val + 3 := by
  rw [← batch_val]; omega

include hS hT hW in
/-- The array of the batches' masked row losses, -/
theorem final_4 : (dats m 0 c).arrAt 4 cfg0.N = perBatch (lossRow S T W) := by
  refine (dats m 0 c).arrAt_eq_of_covers 4 _ (by decide +kernel) fun t hf y => ?_
  blk_simp; rw [after0_4]
  exact (rowLoss_real m c S T W hS hT hW (batch t) t.val (batch_val t) y).trans (perBatch_at _ _ _ (emb_4 t y)).symm
include hW in
/-- of the source mask's sums, -/
theorem final_5 : (dats m 0 c).arrAt 5 cfg0.N = perBatch (fun b => ∑ i, ((W b i : ℝ) : EReal)) := by
  refine (dats m 0 c).arrAt_eq_of_covers 5 _ (by decide +kernel) fun t hf y => ?_
  blk_simp; rw [after0_5]
  exact (rowMaskSum_real m c W hW (batch t) t.val (batch_val t) y).trans (perBatch_at (fun b => ∑ i, ((W b i : ℝ) : EReal)) _ _ (emb_5 t y)).symm
include hS hT hW in
/-- of the masked column losses, -/
theorem final_6 : (dats m 0 c).arrAt 6 cfg0.N = perBatch (lossCol S T W fun b j => tgtMask m c (ix2 b j)) := by
  refine (dats m 0 c).arrAt_eq_of_covers 6 _ (by decide +kernel) fun t hf y => ?_
  have ht := last_val t ((flush0_6 t).mp hf)
  blk_simp; rw [after0_6]
  exact (colLoss_real m c S T W hS hT hW (batch t) t ht y).trans (perBatch_at (lossCol S T W fun b j => tgtMask m c (ix2 b j)) _ _ (emb_6 t y)).symm
/-- and of the target mask's sums. -/
theorem final_7 : (dats m 0 c).arrAt 7 cfg0.N = perBatch (fun b => ∑ j, tgtMask m c (ix2 b j)) := by
  refine (dats m 0 c).arrAt_eq_of_covers 7 _ (by decide +kernel) fun t hf y => ?_
  have ht := last_val t ((flush0_7 t).mp hf)
  blk_simp; rw [after0_7]
  exact (colMaskSum_real m c (batch t) t ht y).trans (perBatch_at (fun b => ∑ j, tgtMask m c (ix2 b j)) _ _ (emb_7 t y)).symm

/-- The host lines' result from the four arrays' numbers. -/
theorem tail_of (X : Valuation τ sig (Elt Ideal)) (f₀ f₁ f₂ f₃ : Fin 8 → EReal)
    (h₀ : X (Proc.devRef .tc main_v8_0) = perBatch f₀) (h₁ : X (Proc.devRef .tc main_v8_1) = perBatch f₁)
    (h₂ : X (Proc.devRef .tc main_v8_2) = perBatch f₂) (h₃ : X (Proc.devRef .tc main_v8_3) = perBatch f₃) :
    StableHlo.after (List.flatten [hostOps1]) X (Proc.devRef .tc main_v17)
      = fun _ => Ideal.div (∑ b, f₀ b) ((∑ b, f₁ b) + (eps : EReal)) + Ideal.div (∑ b, f₂ b) ((∑ b, f₃ b) + (eps : EReal)) := by
  rw [tail_at, h₀, h₁, h₂, h₃]
  rfl

/-- No two windows share an array. -/
theorem arrRef_inj : Function.Injective (Pipeline.arrRef spec0) := by decide

include hS hT hW in
/-- The result the host lines leave: the loss of the real arguments. -/
theorem result : Pipeline.afterTail₀ cfgs (dats m) 0 (V0 m) [hostOps1] c main_v17
    = fun _ => loss S T W fun b j => tgtMask m c (ix2 b j) := by
  have h4 := (Pipeline.withArrays_arr spec0 arrRef_inj c (V0 m c) (fun w => (dats m 0 c).arrAt w cfg0.N) 4).trans (final_4 m c S T W hS hT hW)
  have h5 := (Pipeline.withArrays_arr spec0 arrRef_inj c (V0 m c) (fun w => (dats m 0 c).arrAt w cfg0.N) 5).trans (final_5 m c W hW)
  have h6 := (Pipeline.withArrays_arr spec0 arrRef_inj c (V0 m c) (fun w => (dats m 0 c).arrAt w cfg0.N) 6).trans (final_6 m c S T W hS hT hW)
  have h7 := (Pipeline.withArrays_arr spec0 arrRef_inj c (V0 m c) (fun w => (dats m 0 c).arrAt w cfg0.N) 7).trans (final_7 m c)
  exact tail_of _ _ _ _ _ h4 h5 h6 h7

include hS hT hW in
/-- A run's final contents of the result buffer. -/
theorem result_of_final (r : PUnit × MemSt nD τ sig (Elt Ideal)) (h : FinalPost m r) :
    r.2.mem ((c.tc : Thread nD τ).loc main_v17) = fun _ => loss S T W fun b j => tgtMask m c (ix2 b j) :=
  ((h c).2 main_v17 (Pipeline.mem_restRefs_of main_v17 (by decide) (by decide))).trans (result m c S T W hS hT hW)

end

end Cert.KernelIdeal.Chamfer

end
-- ==== Proof.Reference.lean ====
/-
  The reference's value: of real points and a real source mask, its last stage is the loss of the shared mathematics.
-/
module

public import proofs.«01_k».proof.Proof.Gen.ReferenceIdeal.Read
public import proofs.«01_k».proof.Proof.Equations
public import Idealize.ShloMosaic.Lib.Pointwise

@[expose] public section

set_option maxRecDepth 16384

noncomputable section

namespace Cert.ReferenceIdeal.Chamfer

open Cert.ReferenceIdeal Cert.ReferenceIdeal.Gen Cert.ReferenceIdeal.Read
open Idealize.ShloMosaic Idealize.ShloMosaic.TcCoe Idealize.ShloMosaic.Tactic Idealize.SL.Sem
open Cert.Chamfer (coe_sum eps scale scaleE dist D P soft)

section

variable (x0 x1 : S8x4096x3.Idx → EReal) (x2 x3 : S8x4096.Idx → EReal)

/-! ## The stages read at an index -/

/-- The target cloud's largest and smallest coordinates, -/
theorem hi_at (b : Fin 8) (k : Fin 3) : val_main_v0 (F := Ideal) x1 (ix2 b k)
    = Finset.univ.fold max ⊥ fun n : Fin 4096 => x1 (ix3 b n k) := by
  pointwise [val_main_v0, val_main_cst]
  rw [Cert.Chamfer.lit_bot]
/-- And its smallest, -/
theorem lo_at (b : Fin 8) (k : Fin 3) : val_main_v2 (F := Ideal) x1 (ix2 b k)
    = Finset.univ.fold min ⊤ fun n : Fin 4096 => x1 (ix3 b n k) := by
  pointwise [val_main_v2, val_main_cst_0]
  rw [Cert.Chamfer.lit_top]
/-- its centre, -/
theorem centre_at (b : Fin 8) (k : Fin 3) : val_main_v6 (F := Ideal) x1 (ix3 b 0 k)
    = Ideal.div (val_main_v0 (F := Ideal) x1 (ix2 b k) + val_main_v2 (F := Ideal) x1 (ix2 b k)) ((2 : ℝ) : EReal) := by
  pointwise [val_main_v6, val_main_v4, val_main_v5, val_main_v1, val_main_v3, val_main_cst_1]
  rw [Cert.Chamfer.lit_two]
/-- and its scale. -/
theorem scale_at (b : Fin 8) : val_main_v11 (F := Ideal) x1 (ix3 b 0 0) = scaleE fun n k => x1 (ix3 b n k) := by
  pointwise [val_main_v11, val_main_v10, val_main_v9, val_main_v8, val_main_v7, val_main_v1, val_main_v3, val_main_cst_3, val_main_cst_2]
  simp only [hi_at, lo_at, Cert.Chamfer.lit_bot, Cert.Chamfer.lit_eps]
  rfl
/-- The two clouds centred and scaled. -/
theorem source_at (b : Fin 8) (i : Fin 4096) (k : Fin 3) : val_main_v15 (F := Ideal) x0 x1 (ix3 b i k)
    = Ideal.div (x0 (ix3 b i k) - val_main_v6 (F := Ideal) x1 (ix3 b 0 k)) (val_main_v11 (F := Ideal) x1 (ix3 b 0 0)) := by
  pointwise [val_main_v15, val_main_v13, val_main_v14, val_main_v12]
/-- And the target cloud. -/
theorem target_at (b : Fin 8) (j : Fin 4096) (k : Fin 3) : val_main_v19 (F := Ideal) x1 (ix3 b j k)
    = Ideal.div (x1 (ix3 b j k) - val_main_v6 (F := Ideal) x1 (ix3 b 0 k)) (val_main_v11 (F := Ideal) x1 (ix3 b 0 0)) := by
  pointwise [val_main_v19, val_main_v17, val_main_v18, val_main_v16]
/-- The clipped squared distances, -/
theorem distance_at (b : Fin 8) (i j : Fin 4096) : val_main_v34 (F := Ideal) x0 x1 (ix3 b i j)
    = max ((∑ k, val_main_v15 (F := Ideal) x0 x1 (ix3 b i k) * val_main_v15 (F := Ideal) x0 x1 (ix3 b i k) : EReal)
        + (∑ k, val_main_v19 (F := Ideal) x1 (ix3 b j k) * val_main_v19 (F := Ideal) x1 (ix3 b j k) : EReal)
        - ((2 : ℝ) : EReal) * (∑ k, val_main_v15 (F := Ideal) x0 x1 (ix3 b i k) * val_main_v19 (F := Ideal) x1 (ix3 b j k) : EReal)) 0 := by
  pointwise [val_main_v34, val_main_v33, val_main_v32, val_main_v31, val_main_v30, val_main_v29, val_main_v28, val_main_v27, val_main_v26,
    val_main_v25, val_main_v24, val_main_v23, val_main_v22, val_main_v21, val_main_v20, val_main_cst_4, val_main_cst_5, val_main_cst_6,
    val_main_cst_7]
  simp only [Cert.Chamfer.lit_two]
/-- and the penalized ones. -/
theorem penalized_at (b : Fin 8) (j i : Fin 4096) : val_main_v63 (F := Ideal) x0 x1 x2 (ix3 b j i)
    = val_main_v34 (F := Ideal) x0 x1 (ix3 b i j) + (1 - x2 (ix2 b i)) * ((10 : ℝ) : EReal) := by
  pointwise [val_main_v63, val_main_v62, val_main_v61, val_main_v60, val_main_v59, val_main_v58, val_main_v57, val_main_v56,
    val_main_cst_16, val_main_cst_17]
  simp only [Cert.Chamfer.lit_ten]

/-- The largest of a row, of any array of this shape. -/
theorem reduceMax_at (y : FVec Ideal S8x4096x4096 .f32) (b : Fin 8) (i : Fin 4096) :
    (Host.reduce FloatOps.maximumf y (constant S_ .f32 0xFF800000#32) reducesTo_S8x4096x4096_S8x4096_d2 h_S_ : FVec Ideal S8x4096 .f32) (ix2 b i)
    = Finset.univ.fold max ⊥ fun j : Fin 4096 => y (ix3 b i j) := by
  pointwise
  rw [Cert.Chamfer.lit_bot]

/-- A maximum with minus infinity. -/
theorem max_lit_bot (z : EReal) :
    (FloatOps.maximumf (F := Ideal) (φ := .f32) (FloatOps.ofBits .f32 0xFF800000#32) z : EReal) = max ⊥ z :=
  (Ideal.maximumf_def _ _).trans (congrArg (fun a : EReal => max a z) Cert.Chamfer.lit_bot)

/-- A source point's softmax over the targets: the logits, -/
theorem row_logit (b : Fin 8) (i j : Fin 4096) : val_main_v37 (F := Ideal) x0 x1 (ix3 b i j)
    = -(val_main_v34 (F := Ideal) x0 x1 (ix3 b i j)) * ((10 : ℝ) : EReal) := by
  pointwise [val_main_v37, val_main_v36, val_main_v35, val_main_cst_8]
  simp only [Cert.Chamfer.lit_ten]
/-- the shift, -/
theorem row_shift (b : Fin 8) (i : Fin 4096) : val_main_v40 (F := Ideal) x0 x1 (ix2 b i)
    = max ⊥ (Finset.univ.fold max ⊥ fun j : Fin 4096 => val_main_v37 (F := Ideal) x0 x1 (ix3 b i j)) := by
  have h : val_main_v38 (F := Ideal) x0 x1 (ix2 b i) = Finset.univ.fold max ⊥ fun j : Fin 4096 => val_main_v37 (F := Ideal) x0 x1 (ix3 b i j) := by
    unfold val_main_v38 val_main_cst_9
    generalize val_main_v37 (F := Ideal) x0 x1 = y
    exact reduceMax_at y b i
  rw [val_main_v40_apply, val_main_v39_apply, val_main_cst_10_apply, h]
  exact max_lit_bot _
/-- the weights, -/
theorem row_exp (b : Fin 8) (i j : Fin 4096) : val_main_v44 (F := Ideal) x0 x1 (ix3 b i j)
    = Ideal.exp (val_main_v37 (F := Ideal) x0 x1 (ix3 b i j) - val_main_v40 (F := Ideal) x0 x1 (ix2 b i)) := by
  pointwise [val_main_v44, val_main_v43, val_main_v42, val_main_v41]
/-- their shares of the sum, -/
theorem row_share (b : Fin 8) (i j : Fin 4096) : val_main_v48 (F := Ideal) x0 x1 (ix3 b i j)
    = Ideal.div (val_main_v44 (F := Ideal) x0 x1 (ix3 b i j)) (∑ j : Fin 4096, val_main_v44 (F := Ideal) x0 x1 (ix3 b i j)) := by
  pointwise [val_main_v48, val_main_v47, val_main_v46, val_main_v45, val_main_cst_11]
/-- and the mean. -/
theorem row_at (b : Fin 8) (i : Fin 4096) : val_main_v50 (F := Ideal) x0 x1 (ix2 b i)
    = ∑ j : Fin 4096, val_main_v34 (F := Ideal) x0 x1 (ix3 b i j) * val_main_v48 (F := Ideal) x0 x1 (ix3 b i j) := by
  pointwise [val_main_v50, val_main_v49, val_main_cst_12]
/-- A target point's softmax over the sources: the logits, -/
theorem col_logit (b : Fin 8) (i j : Fin 4096) : val_main_v66 (F := Ideal) x0 x1 x2 (ix3 b i j)
    = -(val_main_v63 (F := Ideal) x0 x1 x2 (ix3 b i j)) * ((10 : ℝ) : EReal) := by
  pointwise [val_main_v66, val_main_v65, val_main_v64, val_main_cst_18]
  simp only [Cert.Chamfer.lit_ten]
/-- the shift, -/
theorem col_shift (b : Fin 8) (i : Fin 4096) : val_main_v69 (F := Ideal) x0 x1 x2 (ix2 b i)
    = max ⊥ (Finset.univ.fold max ⊥ fun j : Fin 4096 => val_main_v66 (F := Ideal) x0 x1 x2 (ix3 b i j)) := by
  have h : val_main_v67 (F := Ideal) x0 x1 x2 (ix2 b i) = Finset.univ.fold max ⊥ fun j : Fin 4096 => val_main_v66 (F := Ideal) x0 x1 x2 (ix3 b i j) := by
    unfold val_main_v67 val_main_cst_19
    generalize val_main_v66 (F := Ideal) x0 x1 x2 = y
    exact reduceMax_at y b i
  rw [val_main_v69_apply, val_main_v68_apply, val_main_cst_20_apply, h]
  exact max_lit_bot _
/-- the weights, -/
theorem col_exp (b : Fin 8) (i j : Fin 4096) : val_main_v73 (F := Ideal) x0 x1 x2 (ix3 b i j)
    = Ideal.exp (val_main_v66 (F := Ideal) x0 x1 x2 (ix3 b i j) - val_main_v69 (F := Ideal) x0 x1 x2 (ix2 b i)) := by
  pointwise [val_main_v73, val_main_v72, val_main_v71, val_main_v70]
/-- their shares of the sum, -/
theorem col_share (b : Fin 8) (i j : Fin 4096) : val_main_v77 (F := Ideal) x0 x1 x2 (ix3 b i j)
    = Ideal.div (val_main_v73 (F := Ideal) x0 x1 x2 (ix3 b i j)) (∑ j : Fin 4096, val_main_v73 (F := Ideal) x0 x1 x2 (ix3 b i j)) := by
  pointwise [val_main_v77, val_main_v76, val_main_v75, val_main_v74, val_main_cst_21]
/-- and the mean. -/
theorem col_at (b : Fin 8) (i : Fin 4096) : val_main_v79 (F := Ideal) x0 x1 x2 (ix2 b i)
    = ∑ j : Fin 4096, val_main_v63 (F := Ideal) x0 x1 x2 (ix3 b i j) * val_main_v77 (F := Ideal) x0 x1 x2 (ix3 b i j) := by
  pointwise [val_main_v79, val_main_v78, val_main_cst_22]
/-- The result's two quotients. -/
theorem total_at (y : S_.Idx) : val_main_v85 (F := Ideal) x0 x1 x2 x3 y
    = Ideal.div (∑ b : Fin 8, ∑ i : Fin 4096, val_main_v50 (F := Ideal) x0 x1 (ix2 b i) * x2 (ix2 b i))
        ((∑ b : Fin 8, ∑ i : Fin 4096, x2 (ix2 b i)) + (eps : EReal))
      + Ideal.div (∑ b : Fin 8, ∑ j : Fin 4096, val_main_v79 (F := Ideal) x0 x1 x2 (ix2 b j) * x3 (ix2 b j))
        ((∑ b : Fin 8, ∑ j : Fin 4096, x3 (ix2 b j)) + (eps : EReal)) := by
  pointwise [val_main_v85, val_main_v84, val_main_v83, val_main_v82, val_main_v81, val_main_v80, val_main_v55, val_main_v54, val_main_v53,
    val_main_v52, val_main_v51, val_main_cst_13, val_main_cst_14, val_main_cst_15, val_main_cst_23, val_main_cst_24, val_main_cst_25]
  simp only [Cert.Chamfer.lit_eps]

end

end Cert.ReferenceIdeal.Chamfer

end
-- ==== Proof.RefValue.lean ====
/-
  The reference's stages at real arguments, and its result: the loss of the shared mathematics.
-/
module

public import proofs.«01_k».proof.Proof.Reference

@[expose] public section

set_option maxRecDepth 16384

noncomputable section

namespace Cert.ReferenceIdeal.Chamfer

open Cert.ReferenceIdeal Cert.ReferenceIdeal.Gen Cert.ReferenceIdeal.Read
open Idealize.ShloMosaic Idealize.ShloMosaic.TcCoe Idealize.ShloMosaic.Tactic Idealize.SL.Sem
open Cert.Chamfer (coe_sum eps scale scaleE dist D P soft)

open Cert.Chamfer (fold_max_coe fold_min_coe)

/-! ## Scalars -/

/-- A quotient of real numbers with a nonzero divisor. -/
theorem quot_coe (a b : ℝ) (h : b ≠ 0) : Ideal.div (a : EReal) (b : EReal) = ((a / b : ℝ) : EReal) := by
  rw [Ideal.div_coe h, ← EReal.coe_mul, one_div, div_eq_mul_inv]

/-- The shifted softmax mean of real distances is the mean without the shift. -/
theorem shifted_coe (d : Fin 4096 → ℝ) (e : Fin 4096 → EReal)
    (he : ∀ j, e j = Ideal.exp (-((d j : ℝ) : EReal) * ((10 : ℝ) : EReal)
      - max ⊥ (Finset.univ.fold max ⊥ fun l : Fin 4096 => -((d l : ℝ) : EReal) * ((10 : ℝ) : EReal)))) :
    (∑ j, ((d j : ℝ) : EReal) * Ideal.div (e j) (∑ j, e j)) = ((soft d : ℝ) : EReal) := by
  have hl : (fun l : Fin 4096 => -((d l : ℝ) : EReal) * ((10 : ℝ) : EReal)) = fun l => ((-d l * 10 : ℝ) : EReal) :=
    funext fun l => by rw [EReal.coe_mul, EReal.coe_neg]
  obtain ⟨M, hM, -⟩ := fold_max_coe (n := 4095) fun l => -d l * 10
  have hc : ∀ j, e j = ((Real.exp (-d j * 10 - M) : ℝ) : EReal) := fun j => by
    rw [he, congrFun hl j, hl, hM, max_eq_right bot_le, ← EReal.coe_sub]
    exact Ideal.exp_coe _
  have hp : (∑ j, Real.exp (-d j * 10 - M)) ≠ 0 :=
    (Finset.sum_pos (fun i _ => Real.exp_pos _) ⟨(0 : Fin 4096), Finset.mem_univ _⟩).ne'
  rw [← Cert.Chamfer.soft_shifted (n := 4095) d M, coe_sum]
  refine Finset.sum_congr rfl fun j _ => ?_
  rw [EReal.coe_mul, ← quot_coe _ _ hp, coe_sum, hc]
  exact congrArg (fun z : EReal => ((d j : ℝ) : EReal) * Ideal.div ((Real.exp (-d j * 10 - M) : ℝ) : EReal) z)
    (Finset.sum_congr rfl fun l _ => hc l)

section

variable (x0 x1 : S8x4096x3.Idx → EReal) (x2 x3 : S8x4096.Idx → EReal)
variable (S T : Fin 8 → Fin 4096 → Fin 3 → ℝ) (W : Fin 8 → Fin 4096 → ℝ)
variable (h0 : ∀ b i k, x0 (ix3 b i k) = ((S b i k : ℝ) : EReal)) (h1 : ∀ b j k, x1 (ix3 b j k) = ((T b j k : ℝ) : EReal))
  (h2 : ∀ b i, x2 (ix2 b i) = ((W b i : ℝ) : EReal))

/-! ## The stages at real arguments -/

include h1 in
/-- The centre of a target cloud is a real point. -/
theorem centre_real (b : Fin 8) : ∃ x : Fin 3 → ℝ, ∀ k, val_main_v6 (F := Ideal) x1 (ix3 b 0 k) = ((x k : ℝ) : EReal) := by
  choose hi hhi _ using fun k => fold_max_coe (n := 4095) fun n => T b n k
  choose lo hlo _ using fun k => fold_min_coe (n := 4095) fun n => T b n k
  refine ⟨fun k => (hi k + lo k) / 2, fun k => ?_⟩
  rw [centre_at, hi_at, lo_at]
  simp only [h1]
  rw [hhi, hlo, ← EReal.coe_add, quot_coe _ _ two_ne_zero]
include h1 in
/-- Its scale is the shared one. -/
theorem scale_real (b : Fin 8) : val_main_v11 (F := Ideal) x1 (ix3 b 0 0) = ((scale (T b) : ℝ) : EReal) := by
  rw [scale_at]
  simp only [h1]
  exact Cert.Chamfer.scaleE_coe (T b)
include h0 h1 in
/-- The squared distances are the shared ones. -/
theorem distance_real (b : Fin 8) (i j : Fin 4096) : val_main_v34 (F := Ideal) x0 x1 (ix3 b i j) = ((D S T b i j : ℝ) : EReal) := by
  obtain ⟨x, hx⟩ := centre_real x1 T h1 b
  have hσ := (Cert.Chamfer.scale_pos (T b)).ne'
  have hs : ∀ k, val_main_v15 (F := Ideal) x0 x1 (ix3 b i k) = (((S b i k - x k) / scale (T b) : ℝ) : EReal) := fun k => by
    rw [source_at, h0, hx, scale_real x1 T h1, ← EReal.coe_sub, quot_coe _ _ hσ]
  have ht : ∀ k, val_main_v19 (F := Ideal) x1 (ix3 b j k) = (((T b j k - x k) / scale (T b) : ℝ) : EReal) := fun k => by
    rw [target_at, h1, hx, scale_real x1 T h1, ← EReal.coe_sub, quot_coe _ _ hσ]
  rw [distance_at]
  simp only [hs, ht, ← EReal.coe_mul, ← coe_sum, ← EReal.coe_add, ← EReal.coe_sub]
  rw [Cert.Chamfer.dist_expanded _ hσ, max_eq_left (EReal.coe_nonneg.mpr (Cert.Chamfer.dist_nonneg _ _ _))]
  rfl
include h0 h1 h2 in
/-- So are the penalized ones, -/
theorem penalized_real (b : Fin 8) (j i : Fin 4096) :
    val_main_v63 (F := Ideal) x0 x1 x2 (ix3 b j i) = ((P S T W b j i : ℝ) : EReal) := by
  rw [penalized_at, distance_real x0 x1 S T h0 h1, h2]
  unfold P
  rw [EReal.coe_add, EReal.coe_mul, EReal.coe_sub, EReal.coe_one]
include h0 h1 in
/-- a source point's mean, -/
theorem row_real (b : Fin 8) (i : Fin 4096) : val_main_v50 (F := Ideal) x0 x1 (ix2 b i) = ((soft (D S T b i) : ℝ) : EReal) := by
  have hd := distance_real x0 x1 S T h0 h1 b i
  rw [row_at]
  simp only [row_share, hd]
  refine shifted_coe (D S T b i) (fun j => val_main_v44 (F := Ideal) x0 x1 (ix3 b i j)) fun j => ?_
  simp only [row_exp, row_shift, row_logit, hd]
include h0 h1 h2 in
/-- and a target point's. -/
theorem col_real (b : Fin 8) (j : Fin 4096) : val_main_v79 (F := Ideal) x0 x1 x2 (ix2 b j) = ((soft (P S T W b j) : ℝ) : EReal) := by
  have hd := penalized_real x0 x1 x2 S T W h0 h1 h2 b j
  rw [col_at]
  simp only [col_share, hd]
  refine shifted_coe (P S T W b j) (fun i => val_main_v73 (F := Ideal) x0 x1 x2 (ix3 b j i)) fun i => ?_
  simp only [col_exp, col_shift, col_logit, hd]

include h0 h1 h2 in
/-- The reference's result is the loss. -/
theorem total_real : val_main_v85 (F := Ideal) x0 x1 x2 x3 = fun _ => Cert.Chamfer.loss S T W fun b j => x3 (ix2 b j) := by
  funext y
  rw [total_at]
  simp only [row_real x0 x1 S T h0 h1, col_real x0 x1 x2 S T W h0 h1 h2, h2]
  rfl

end

end Cert.ReferenceIdeal.Chamfer

end
-- ==== Proof.Algebraic.lean ====
/-
  The two programs over the extended reals: from real points and a real source mask both end with the same loss.
-/
module

public import proofs.«01_k».proof.Proof.Inputs
public import proofs.«01_k».proof.Proof.Final
public import proofs.«01_k».proof.Proof.RefValue
public import Idealize.ShloMosaic.Lib.Claim

@[expose] public section

noncomputable section

namespace Cert.Proof

open Idealize.ShloMosaic Idealize.ShloMosaic.TcCoe Idealize.SL.Sem

section

variable (m : (ℓ : Loc Cert.KernelIdeal.nD Cert.KernelIdeal.τ Cert.KernelIdeal.sig) → Buf (Elt Ideal) ℓ) (c : Dev Cert.KernelIdeal.nD)

open Cert.KernelIdeal.Chamfer (srcArr tgtArr srcMask tgtMask)

/-- The real source points, target points and source mask of a memory, -/
def sourceOf (b : Fin 8) (i : Fin 4096) (k : Fin 3) : ℝ := (srcArr m c (ix3 b i k)).toReal
/-- Its target points, -/
def targetOf (b : Fin 8) (j : Fin 4096) (k : Fin 3) : ℝ := (tgtArr m c (ix3 b j k)).toReal
/-- Its source mask, -/
def maskOf (b : Fin 8) (i : Fin 4096) : ℝ := (srcMask m c (ix2 b i)).toReal
/-- and their loss. -/
def lossOf : EReal := Cert.Chamfer.loss (sourceOf m c) (targetOf m c) (maskOf m c) fun b j => tgtMask m c (ix2 b j)

variable (hpre : Cert.Pre_KernelIdeal_finite_inputs (hPre_finite_inputs := Cert.Inputs.facts) m)
include hpre

/-- Under the precondition every source coordinate is its real number, -/
theorem source_eq (b : Fin 8) (i : Fin 4096) (k : Fin 3) : srcArr m c (ix3 b i k) = ((sourceOf m c b i k : ℝ) : EReal) :=
  Cert.Inputs.source_real _ _ _ _ _ (hpre c).1 _
/-- Every target coordinate, -/
theorem target_eq (b : Fin 8) (j : Fin 4096) (k : Fin 3) : tgtArr m c (ix3 b j k) = ((targetOf m c b j k : ℝ) : EReal) :=
  Cert.Inputs.target_real _ _ _ _ _ (hpre c).2.1 _
/-- And every entry of the source mask. -/
theorem mask_eq (b : Fin 8) (i : Fin 4096) : srcMask m c (ix2 b i) = ((maskOf m c b i : ℝ) : EReal) :=
  Cert.Inputs.mask_real _ _ _ _ _ (hpre c).2.2 _

/-- The reference's result from a memory that agrees on its four float arguments. -/
theorem reference_result (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = srcArr m c)
    (h1 : m' ((c.tc : Thread Cert.ReferenceIdeal.nD Cert.ReferenceIdeal.τ).loc Cert.ReferenceIdeal.main_arg1) = tgtArr m c)
    (h2 : m' ((c.tc : Thread Cert.ReferenceIdeal.nD Cert.ReferenceIdeal.τ).loc Cert.ReferenceIdeal.main_arg2) = srcMask m c)
    (h3 : m' ((c.tc : Thread Cert.ReferenceIdeal.nD Cert.ReferenceIdeal.τ).loc Cert.ReferenceIdeal.main_arg3) = tgtMask m c) :
    Cert.ReferenceIdeal.Value.res_main_v85 m' c = fun _ => lossOf m c := by
  rw [Cert.ReferenceIdeal.Read.val_main_v85_eq, h0, h1, h2, h3]
  exact Cert.ReferenceIdeal.Chamfer.total_real (srcArr m c) (tgtArr m c) (srcMask m c) (tgtMask m c) _ _ _
    (source_eq m c hpre) (target_eq m c hpre) (mask_eq m c hpre)

end

/-- The kernel and the reference end with equal results and unchanged arguments. -/
theorem algebraic_equal : Cert.algebraic_KernelIdeal_ReferenceIdeal_pre_finite_inputs
    (hKernelIdeal := Cert.KernelIdeal.Gen.facts) (hReferenceIdeal := Cert.ReferenceIdeal.Gen.facts)
    (hPre_finite_inputs := Cert.Inputs.facts) := fun m g m' g' hpre hargs =>
  ⟨fun c _ => lossOf m c,
    (θ_run Cert.KernelIdeal.defs _ _).mono (fun r h c =>
      ⟨Cert.KernelIdeal.Chamfer.result_of_final m c _ _ _ (source_eq m c hpre) (target_eq m c hpre) (mask_eq m c hpre) r h.1, h.2 c⟩)
      (θ_run_and (Cert.KernelIdeal.Chamfer.run_main m g) (Cert.KernelIdeal.Chamfer.unchanged m g)),
    (θ_run Cert.ReferenceIdeal.defs _ _).mono (fun r h c => ⟨(h c).1.trans (reference_result m c hpre m' (hargs c).1 (hargs c).2.1
      (hargs c).2.2.1 (hargs c).2.2.2.1), (h c).2⟩) (Cert.ReferenceIdeal.Value.run m' g')⟩

end Cert.Proof

end
-- ==== Proof.lean ====
/-
  The certificate: the kernel's frames, the frame of the reference, the named constant's site, and the equality of the
  two programs over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Inputs
public import proofs.«01_k».proof.Proof.Region
public import proofs.«01_k».proof.Proof.KernelFrame
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Inputs.facts,
    kernel_frame,
    fun m ρ _ => Cert.KernelIdeal.Chamfer.frame m ρ,
    fun m ρ _ => Cert.KernelIdeal.Chamfer.frame m ρ,
    reference_frame,
    fun m ρ _ => reference_frame m ρ trivial,
    IdealRules.named_const.statement Cert.KernelIdeal.κ "neg_ten_log2e" .f32 0xC166D4CA#32 _ rfl,
    algebraic_equal⟩

end Cert.Proof

end
